-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x2048 : Shape := ⟨3, ![4, 8192, 2048]⟩
abbrev S2048x16 : Shape := ⟨2, ![2048, 16]⟩
abbrev S16 : Shape := ⟨1, ![16]⟩
abbrev S32768x2048 : Shape := ⟨2, ![32768, 2048]⟩
abbrev S1x16 : Shape := ⟨2, ![1, 16]⟩
abbrev S4x16 : Shape := ⟨2, ![4, 16]⟩
abbrev S8x256x2048 : Shape := ⟨3, ![8, 256, 2048]⟩
abbrev S8 : Shape := ⟨1, ![8]⟩
abbrev S4x1 : Shape := ⟨2, ![4, 1]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S4x2048 : Shape := ⟨2, ![4, 2048]⟩
abbrev S2048 : Shape := ⟨1, ![2048]⟩
abbrev S1x2048 : Shape := ⟨2, ![1, 2048]⟩
abbrev S4 : Shape := ⟨1, ![4]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S2048x16, .f32⟩
  | .hbm, ⟨2, _⟩ => ⟨S16, .f32⟩
  | .hbm, ⟨3, _⟩ => ⟨S32768x2048, .f32⟩
  | .hbm, ⟨4, _⟩ => ⟨S1x16, .f32⟩
  | .hbm, ⟨5, _⟩ => ⟨S4x16, .f32⟩
  | .hbm, ⟨6, _⟩ => ⟨S4x16, .f32⟩
  | .hbm, ⟨7, _⟩ => ⟨S4x16, .f32⟩
  | .local _ .vmem, ⟨0, _⟩ => ⟨S2048x16, .f32⟩
  | .local _ .vmem, ⟨1, _⟩ => ⟨S1x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S8x256x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_33 : BitVec 32 := 0#32
  let c16_i32 : BitVec 32 := 16#32
  let v42 : BitVec 32 := Scalar.addi c0_i32_33 c16_i32
  let c1_i32_34 : BitVec 32 := 1#32
  ⟨c0_i32_33, v42, c1_i32_34⟩
def k0_off1 (k0_t1 : Fin k0_t1_loop.trips) (c0_i32_106 : BitVec 32) : Fin 2 → Nat :=
  let c0_i32_33 : BitVec 32 := 0#32
  let c1_i32_34 : BitVec 32 := 1#32
  let arg8 : BitVec 32 := Scf.iv c0_i32_33 c1_i32_34 k0_t1
  let c8_i32_105 : BitVec 32 := 8#32
  let v314 : BitVec 32 := Scalar.muli arg8 c8_i32_105
  let v315 : BitVec 32 := Scalar.addi v314 c0_i32_106
  let c256_i32_107 : BitVec 32 := 256#32
  let v316 : BitVec 32 := Scalar.muli v315 c256_i32_107
  let c0_i32_112 : BitVec 32 := 0#32
  ![v316.toNat, 0]
def k0_cond1 (k0_t1 : Fin k0_t1_loop.trips) : BitVec 1 :=
  let c0_i32_33 : BitVec 32 := 0#32
  let c1_i32_34 : BitVec 32 := 1#32
  let arg8 : BitVec 32 := Scf.iv c0_i32_33 c1_i32_34 k0_t1
  let c8_i32_105 : BitVec 32 := 8#32
  let v314 : BitVec 32 := Scalar.muli arg8 c8_i32_105
  let c0_i32_106 : BitVec 32 := 0#32
  let v315 : BitVec 32 := Scalar.addi v314 c0_i32_106
  let c8_i32_124 : BitVec 32 := 8#32
  let v352 : BitVec 32 := Scalar.addi v315 c8_i32_124
  let c128_i32 : BitVec 32 := 128#32
  let v353 : BitVec 1 := Scalar.cmpi .slt v352 c128_i32
  let v354 : BitVec 32 := Scalar.extui v353
  let c0_i32_125 : BitVec 32 := 0#32
  let v355 : BitVec 1 := Scalar.cmpi .ne v354 c0_i32_125
  v355

def k0_off2 (k0_t1 : Fin k0_t1_loop.trips) : Fin 2 → Nat :=
  let c0_i32_33 : BitVec 32 := 0#32
  let c1_i32_34 : BitVec 32 := 1#32
  let arg8 : BitVec 32 := Scf.iv c0_i32_33 c1_i32_34 k0_t1
  let c8_i32_105 : BitVec 32 := 8#32
  let v314 : BitVec 32 := Scalar.muli arg8 c8_i32_105
  let c0_i32_106 : BitVec 32 := 0#32
  let v315 : BitVec 32 := Scalar.addi v314 c0_i32_106
  let c8_i32_124 : BitVec 32 := 8#32
  let v352 : BitVec 32 := Scalar.addi v315 c8_i32_124
  let c256_i32_280 : BitVec 32 := 256#32
  let v650 : BitVec 32 := Scalar.muli v352 c256_i32_280
  let c0_i32_285 : BitVec 32 := 0#32
  ![v650.toNat, 0]
def k0_cond2 (k0_t1 : Fin k0_t1_loop.trips) : BitVec 1 :=
  let c0_i32_33 : BitVec 32 := 0#32
  let c1_i32_34 : BitVec 32 := 1#32
  let arg8 : BitVec 32 := Scf.iv c0_i32_33 c1_i32_34 k0_t1
  let c8_i32_126 : BitVec 32 := 8#32
  let v356 : BitVec 32 := Scalar.muli arg8 c8_i32_126
  let c1_i32_127 : BitVec 32 := 1#32
  let v357 : BitVec 32 := Scalar.addi v356 c1_i32_127
  let c8_i32_145 : BitVec 32 := 8#32
  let v394 : BitVec 32 := Scalar.addi v357 c8_i32_145
  let c128_i32_146 : BitVec 32 := 128#32
  let v395 : BitVec 1 := Scalar.cmpi .slt v394 c128_i32_146
  let v396 : BitVec 32 := Scalar.extui v395
  let c0_i32_147 : BitVec 32 := 0#32
  let v397 : BitVec 1 := Scalar.cmpi .ne v396 c0_i32_147
  v397

def k0_off3 (k0_t1 : Fin k0_t1_loop.trips) : Fin 2 → Nat :=
  let c0_i32_33 : BitVec 32 := 0#32
  let c1_i32_34 : BitVec 32 := 1#32
  let arg8 : BitVec 32 := Scf.iv c0_i32_33 c1_i32_34 k0_t1
  let c8_i32_126 : BitVec 32 := 8#32
  let v356 : BitVec 32 := Scalar.muli arg8 c8_i32_126
  let c1_i32_127 : BitVec 32 := 1#32
  let v357 : BitVec 32 := Scalar.addi v356 c1_i32_127
  let c8_i32_145 : BitVec 32 := 8#32
  let v394 : BitVec 32 := Scalar.addi v357 c8_i32_145
  let c256_i32_280 : BitVec 32 := 256#32
  let v650 : BitVec 32 := Scalar.muli v394 c256_i32_280
  let c0_i32_285 : BitVec 32 := 0#32
  ![v650.toNat, 0]
def k0_cond3 (k0_t1 : Fin k0_t1_loop.trips) : BitVec 1 :=
  let c0_i32_33 : BitVec 32 := 0#32
  let c1_i32_34 : BitVec 32 := 1#32
  let arg8 : BitVec 32 := Scf.iv c0_i32_33 c1_i32_34 k0_t1
  let c8_i32_148 : BitVec 32 := 8#32
  let v398 : BitVec 32 := Scalar.muli arg8 c8_i32_148
  let c2_i32_149 : BitVec 32 := 2#32
  let v399 : BitVec 32 := Scalar.addi v398 c2_i32_149
  let c8_i32_167 : BitVec 32 := 8#32
  let v436 : BitVec 32 := Scalar.addi v399 c8_i32_167
  let c128_i32_168 : BitVec 32 := 128#32
  let v437 : BitVec 1 := Scalar.cmpi .slt v436 c128_i32_168
  let v438 : BitVec 32 := Scalar.extui v437
  let c0_i32_169 : BitVec 32 := 0#32
  let v439 : BitVec 1 := Scalar.cmpi .ne v438 c0_i32_169
  v439

def k0_off4 (k0_t1 : Fin k0_t1_loop.trips) : Fin 2 → Nat :=
  let c0_i32_33 : BitVec 32 := 0#32
  let c1_i32_34 : BitVec 32 := 1#32
  let arg8 : BitVec 32 := Scf.iv c0_i32_33 c1_i32_34 k0_t1
  let c8_i32_148 : BitVec 32 := 8#32
  let v398 : BitVec 32 := Scalar.muli arg8 c8_i32_148
  let c2_i32_149 : BitVec 32 := 2#32
  let v399 : BitVec 32 := Scalar.addi v398 c2_i32_149
  let c8_i32_167 : BitVec 32 := 8#32
  let v436 : BitVec 32 := Scalar.addi v399 c8_i32_167
  let c256_i32_280 : BitVec 32 := 256#32
  let v650 : BitVec 32 := Scalar.muli v436 c256_i32_280
  let c0_i32_285 : BitVec 32 := 0#32
  ![v650.toNat, 0]
def k0_cond4 (k0_t1 : Fin k0_t1_loop.trips) : BitVec 1 :=
  let c0_i32_33 : BitVec 32 := 0#32
  let c1_i32_34 : BitVec 32 := 1#32
  let arg8 : BitVec 32 := Scf.iv c0_i32_33 c1_i32_34 k0_t1
  let c8_i32_170 : BitVec 32 := 8#32
  let v440 : BitVec 32 := Scalar.muli arg8 c8_i32_170
  let c3_i32_171 : BitVec 32 := 3#32
  let v441 : BitVec 32 := Scalar.addi v440 c3_i32_171
  let c8_i32_189 : BitVec 32 := 8#32
  let v478 : BitVec 32 := Scalar.addi v441 c8_i32_189
  let c128_i32_190 : BitVec 32 := 128#32
  let v479 : BitVec 1 := Scalar.cmpi .slt v478 c128_i32_190
  let v480 : BitVec 32 := Scalar.extui v479
  let c0_i32_191 : BitVec 32 := 0#32
  let v481 : BitVec 1 := Scalar.cmpi .ne v480 c0_i32_191
  v481

def k0_off5 (k0_t1 : Fin k0_t1_loop.trips) : Fin 2 → Nat :=
  let c0_i32_33 : BitVec 32 := 0#32
  let c1_i32_34 : BitVec 32 := 1#32
  let arg8 : BitVec 32 := Scf.iv c0_i32_33 c1_i32_34 k0_t1
  let c8_i32_170 : BitVec 32 := 8#32
  let v440 : BitVec 32 := Scalar.muli arg8 c8_i32_170
  let c3_i32_171 : BitVec 32 := 3#32
  let v441 : BitVec 32 := Scalar.addi v440 c3_i32_171
  let c8_i32_189 : BitVec 32 := 8#32
  let v478 : BitVec 32 := Scalar.addi v441 c8_i32_189
  let c256_i32_280 : BitVec 32 := 256#32
  let v650 : BitVec 32 := Scalar.muli v478 c256_i32_280
  let c0_i32_285 : BitVec 32 := 0#32
  ![v650.toNat, 0]
def k0_cond5 (k0_t1 : Fin k0_t1_loop.trips) : BitVec 1 :=
  let c0_i32_33 : BitVec 32 := 0#32
  let c1_i32_34 : BitVec 32 := 1#32
  let arg8 : BitVec 32 := Scf.iv c0_i32_33 c1_i32_34 k0_t1
  let c8_i32_192 : BitVec 32 := 8#32
  let v482 : BitVec 32 := Scalar.muli arg8 c8_i32_192
  let c4_i32_193 : BitVec 32 := 4#32
  let v483 : BitVec 32 := Scalar.addi v482 c4_i32_193
  let c8_i32_211 : BitVec 32 := 8#32
  let v520 : BitVec 32 := Scalar.addi v483 c8_i32_211
  let c128_i32_212 : BitVec 32 := 128#32
  let v521 : BitVec 1 := Scalar.cmpi .slt v520 c128_i32_212
  let v522 : BitVec 32 := Scalar.extui v521
  let c0_i32_213 : BitVec 32 := 0#32
  let v523 : BitVec 1 := Scalar.cmpi .ne v522 c0_i32_213
  v523

def k0_off6 (k0_t1 : Fin k0_t1_loop.trips) : Fin 2 → Nat :=
  let c0_i32_33 : BitVec 32 := 0#32
  let c1_i32_34 : BitVec 32 := 1#32
  let arg8 : BitVec 32 := Scf.iv c0_i32_33 c1_i32_34 k0_t1
  let c8_i32_192 : BitVec 32 := 8#32
  let v482 : BitVec 32 := Scalar.muli arg8 c8_i32_192
  let c4_i32_193 : BitVec 32 := 4#32
  let v483 : BitVec 32 := Scalar.addi v482 c4_i32_193
  let c8_i32_211 : BitVec 32 := 8#32
  let v520 : BitVec 32 := Scalar.addi v483 c8_i32_211
  let c256_i32_280 : BitVec 32 := 256#32
  let v650 : BitVec 32 := Scalar.muli v520 c256_i32_280
  let c0_i32_285 : BitVec 32 := 0#32
  ![v650.toNat, 0]
def k0_cond6 (k0_t1 : Fin k0_t1_loop.trips) : BitVec 1 :=
  let c0_i32_33 : BitVec 32 := 0#32
  let c1_i32_34 : BitVec 32 := 1#32
  let arg8 : BitVec 32 := Scf.iv c0_i32_33 c1_i32_34 k0_t1
  let c8_i32_214 : BitVec 32 := 8#32
  let v524 : BitVec 32 := Scalar.muli arg8 c8_i32_214
  let c5_i32_215 : BitVec 32 := 5#32
  let v525 : BitVec 32 := Scalar.addi v524 c5_i32_215
  let c8_i32_233 : BitVec 32 := 8#32
  let v562 : BitVec 32 := Scalar.addi v525 c8_i32_233
  let c128_i32_234 : BitVec 32 := 128#32
  let v563 : BitVec 1 := Scalar.cmpi .slt v562 c128_i32_234
  let v564 : BitVec 32 := Scalar.extui v563
  let c0_i32_235 : BitVec 32 := 0#32
  let v565 : BitVec 1 := Scalar.cmpi .ne v564 c0_i32_235
  v565

def k0_off7 (k0_t1 : Fin k0_t1_loop.trips) : Fin 2 → Nat :=
  let c0_i32_33 : BitVec 32 := 0#32
  let c1_i32_34 : BitVec 32 := 1#32
  let arg8 : BitVec 32 := Scf.iv c0_i32_33 c1_i32_34 k0_t1
  let c8_i32_214 : BitVec 32 := 8#32
  let v524 : BitVec 32 := Scalar.muli arg8 c8_i32_214
  let c5_i32_215 : BitVec 32 := 5#32
  let v525 : BitVec 32 := Scalar.addi v524 c5_i32_215
  let c8_i32_233 : BitVec 32 := 8#32
  let v562 : BitVec 32 := Scalar.addi v525 c8_i32_233
  let c256_i32_280 : BitVec 32 := 256#32
  let v650 : BitVec 32 := Scalar.muli v562 c256_i32_280
  let c0_i32_285 : BitVec 32 := 0#32
  ![v650.toNat, 0]
def k0_cond7 (k0_t1 : Fin k0_t1_loop.trips) : BitVec 1 :=
  let c0_i32_33 : BitVec 32 := 0#32
  let c1_i32_34 : BitVec 32 := 1#32
  let arg8 : BitVec 32 := Scf.iv c0_i32_33 c1_i32_34 k0_t1
  let c8_i32_236 : BitVec 32 := 8#32
  let v566 : BitVec 32 := Scalar.muli arg8 c8_i32_236
  let c6_i32_237 : BitVec 32 := 6#32
  let v567 : BitVec 32 := Scalar.addi v566 c6_i32_237
  let c8_i32_255 : BitVec 32 := 8#32
  let v604 : BitVec 32 := Scalar.addi v567 c8_i32_255
  let c128_i32_256 : BitVec 32 := 128#32
  let v605 : BitVec 1 := Scalar.cmpi .slt v604 c128_i32_256
  let v606 : BitVec 32 := Scalar.extui v605
  let c0_i32_257 : BitVec 32 := 0#32
  let v607 : BitVec 1 := Scalar.cmpi .ne v606 c0_i32_257
  v607

def k0_off8 (k0_t1 : Fin k0_t1_loop.trips) : Fin 2 → Nat :=
  let c0_i32_33 : BitVec 32 := 0#32
  let c1_i32_34 : BitVec 32 := 1#32
  let arg8 : BitVec 32 := Scf.iv c0_i32_33 c1_i32_34 k0_t1
  let c8_i32_236 : BitVec 32 := 8#32
  let v566 : BitVec 32 := Scalar.muli arg8 c8_i32_236
  let c6_i32_237 : BitVec 32 := 6#32
  let v567 : BitVec 32 := Scalar.addi v566 c6_i32_237
  let c8_i32_255 : BitVec 32 := 8#32
  let v604 : BitVec 32 := Scalar.addi v567 c8_i32_255
  let c256_i32_280 : BitVec 32 := 256#32
  let v650 : BitVec 32 := Scalar.muli v604 c256_i32_280
  let c0_i32_285 : BitVec 32 := 0#32
  ![v650.toNat, 0]
def k0_cond8 (k0_t1 : Fin k0_t1_loop.trips) : BitVec 1 :=
  let c0_i32_33 : BitVec 32 := 0#32
  let c1_i32_34 : BitVec 32 := 1#32
  let arg8 : BitVec 32 := Scf.iv c0_i32_33 c1_i32_34 k0_t1
  let c8_i32_258 : BitVec 32 := 8#32
  let v608 : BitVec 32 := Scalar.muli arg8 c8_i32_258
  let c7_i32_259 : BitVec 32 := 7#32
  let v609 : BitVec 32 := Scalar.addi v608 c7_i32_259
  let c8_i32_277 : BitVec 32 := 8#32
  let v646 : BitVec 32 := Scalar.addi v609 c8_i32_277
  let c128_i32_278 : BitVec 32 := 128#32
  let v647 : BitVec 1 := Scalar.cmpi .slt v646 c128_i32_278
  let v648 : BitVec 32 := Scalar.extui v647
  let c0_i32_279 : BitVec 32 := 0#32
  let v649 : BitVec 1 := Scalar.cmpi .ne v648 c0_i32_279
  v649

def k0_off9 (k0_t1 : Fin k0_t1_loop.trips) : Fin 2 → Nat :=
  let c0_i32_33 : BitVec 32 := 0#32
  let c1_i32_34 : BitVec 32 := 1#32
  let arg8 : BitVec 32 := Scf.iv c0_i32_33 c1_i32_34 k0_t1
  let c8_i32_258 : BitVec 32 := 8#32
  let v608 : BitVec 32 := Scalar.muli arg8 c8_i32_258
  let c7_i32_259 : BitVec 32 := 7#32
  let v609 : BitVec 32 := Scalar.addi v608 c7_i32_259
  let c8_i32_277 : BitVec 32 := 8#32
  let v646 : BitVec 32 := Scalar.addi v609 c8_i32_277
  let c256_i32_280 : BitVec 32 := 256#32
  let v650 : BitVec 32 := Scalar.muli v646 c256_i32_280
  let c0_i32_285 : BitVec 32 := 0#32
  ![v650.toNat, 0]
abbrev stage0_0 : Fin 1 → Memref sig .tc .vmem S2048x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x8192x2048 : Shape := ⟨3, ![4, 8192, 2048]⟩
abbrev S2048x16 : Shape := ⟨2, ![2048, 16]⟩
abbrev S16 : Shape := ⟨1, ![16]⟩
abbrev S_ : Shape := ⟨0, ![]⟩
abbrev S4x2048 : Shape := ⟨2, ![4, 2048]⟩
abbrev S4 : Shape := ⟨1, ![4]⟩
abbrev S4x1 : Shape := ⟨2, ![4, 1]⟩
abbrev S1x16 : Shape := ⟨2, ![1, 16]⟩
abbrev S4x16 : Shape := ⟨2, ![4, 16]⟩
abbrev S4x8 : Shape := ⟨2, ![4, 8]⟩
abbrev S4x8x1 : Shape := ⟨3, ![4, 8, 1]⟩
abbrev S1x1x16 : Shape := ⟨3, ![1, 1, 16]⟩
abbrev S4x8x16 : Shape := ⟨3, ![4, 8, 16]⟩

abbrev nBuf : Space → Nat
  | .hbm => 90
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048x16, .f32⟩
  | .hbm, ⟨2, _⟩ => ⟨S16, .f32⟩
  | .hbm, ⟨3, _⟩ => ⟨S_, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4, .f32⟩
  | .hbm, ⟨11, _⟩ => ⟨S4x1, .f32⟩
  | .hbm, ⟨12, _⟩ => ⟨S4x1, .f32⟩
  | .hbm, ⟨13, _⟩ => ⟨S_, .f32⟩
  | .hbm, ⟨14, _⟩ => ⟨S4x1, .f32⟩
  | .hbm, ⟨15, _⟩ => ⟨S4x1, .f32⟩
  | .hbm, ⟨16, _⟩ => ⟨S4x2048, .f32⟩
  | .hbm, ⟨17, _⟩ => ⟨S4x2048, .f32⟩
  | .hbm, ⟨18, _⟩ => ⟨S2048x16, .f32⟩
  | .hbm, ⟨19, _⟩ => ⟨S_, .f32⟩
  | .hbm, ⟨20, _⟩ => ⟨S16, .f32⟩
  | .hbm, ⟨21, _⟩ => ⟨S1x16, .f32⟩
  | .hbm, ⟨22, _⟩ => ⟨S1x16, .f32⟩
  | .hbm, ⟨23, _⟩ => ⟨S_, .f32⟩
  | .hbm, ⟨24, _⟩ => ⟨S1x16, .f32⟩
  | .hbm, ⟨25, _⟩ => ⟨S1x16, .f32⟩
  | .hbm, ⟨26, _⟩ => ⟨S2048x16, .f32⟩
  | .hbm, ⟨27, _⟩ => ⟨S2048x16, .f32⟩
  | .hbm, ⟨28, _⟩ => ⟨S4x16, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S1x16, .f32⟩
  | .hbm, ⟨38, _⟩ => ⟨S4x16, .f32⟩
  | .hbm, ⟨39, _⟩ => ⟨S4x16, .f32⟩
  | .hbm, ⟨40, _⟩ => ⟨S_, .f32⟩
  | .hbm, ⟨41, _⟩ => ⟨S4x16, .f32⟩
  | .hbm, ⟨42, _⟩ => ⟨S4x16, .f32⟩
  | .hbm, ⟨43, _⟩ => ⟨S_, .f32⟩
  | .hbm, ⟨44, _⟩ => ⟨S4x16, .f32⟩
  | .hbm, ⟨45, _⟩ => ⟨S4x16, .i1⟩
  | .hbm, ⟨46, _⟩ => ⟨S4x16, .f32⟩
  | .hbm, ⟨47, _⟩ => ⟨S4x16, .f32⟩
  | .hbm, ⟨48, _⟩ => ⟨S4x16, .f32⟩
  | .hbm, ⟨49, _⟩ => ⟨S_, .f32⟩
  | .hbm, ⟨50, _⟩ => ⟨S4, .f32⟩
  | .hbm, ⟨51, _⟩ => ⟨S_, .f32⟩
  | .hbm, ⟨52, _⟩ => ⟨S4, .f32⟩
  | .hbm, ⟨53, _⟩ => ⟨S4, .i1⟩
  | .hbm, ⟨54, _⟩ => ⟨S4x8, .f32⟩
  | .hbm, ⟨55, _⟩ => ⟨S4x8, .i32⟩
  | .hbm, ⟨56, _⟩ => ⟨S4x8x1, .i32⟩
  | .hbm, ⟨57, _⟩ => ⟨S1x1x16, .i32⟩
  | .hbm, ⟨58, _⟩ => ⟨S4x8x16, .i32⟩
  | .hbm, ⟨59, _⟩ => ⟨S4x8x16, .i32⟩
  | .hbm, ⟨60, _⟩ => ⟨S4x8x16, .i1⟩
  | .hbm, ⟨61, _⟩ => ⟨S4x8x16, .f32⟩
  | .hbm, ⟨62, _⟩ => ⟨S_, .f32⟩
  | .hbm, ⟨63, _⟩ => ⟨S4x16, .f32⟩
  | .hbm, ⟨64, _⟩ => ⟨S_, .f32⟩
  | .hbm, ⟨65, _⟩ => ⟨S4x16, .f32⟩
  | .hbm, ⟨66, _⟩ => ⟨S4x16, .f32⟩
  | .hbm, ⟨67, _⟩ => ⟨S4x1, .i1⟩
  | .hbm, ⟨68, _⟩ => ⟨S4x16, .i1⟩
  | .hbm, ⟨69, _⟩ => ⟨S4x16, .f32⟩
  | .hbm, ⟨70, _⟩ => ⟨S_, .f32⟩
  | .hbm, ⟨71, _⟩ => ⟨S4x16, .f32⟩
  | .hbm, ⟨72, _⟩ => ⟨S4x16, .i1⟩
  | .hbm, ⟨73, _⟩ => ⟨S_, .f32⟩
  | .hbm, ⟨74, _⟩ => ⟨S4x16, .f32⟩
  | .hbm, ⟨75, _⟩ => ⟨S4x16, .f32⟩
  | .hbm, ⟨76, _⟩ => ⟨S_, .f32⟩
  | .hbm, ⟨77, _⟩ => ⟨S4, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S4x1, .f32⟩
  | .hbm, ⟨82, _⟩ => ⟨S4x16, .f32⟩
  | .hbm, ⟨83, _⟩ => ⟨S4x16, .f32⟩
  | .hbm, ⟨84, _⟩ => ⟨S4x16, .f32⟩
  | .hbm, ⟨85, _⟩ => ⟨S_, .f32⟩
  | .hbm, ⟨86, _⟩ => ⟨S4, .f32⟩
  | .hbm, ⟨87, _⟩ => ⟨S4x1, .f32⟩
  | .hbm, ⟨88, _⟩ => ⟨S4x16, .f32⟩
  | .hbm, ⟨89, _⟩ => ⟨S4x16, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call2_cst : Ref sig .tc := ⟨.hbm, 40, rfl⟩
abbrev main_call2_v0 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_values : Ref sig .tc := ⟨.hbm, 54, rfl⟩
abbrev main_indices : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_v32 : Ref sig .tc := ⟨.hbm, 61, rfl⟩
abbrev main_cst_8 : Ref sig .tc := ⟨.hbm, 62, rfl⟩
abbrev main_v33 : Ref sig .tc := ⟨.hbm, 63, rfl⟩
abbrev main_cst_9 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call4_v0 : Ref sig .tc := ⟨.hbm, 68, rfl⟩
abbrev main_v37 : Ref sig .tc := ⟨.hbm, 69, rfl⟩
abbrev main_cst_10 : Ref sig .tc := ⟨.hbm, 70, rfl⟩
abbrev main_v38 : Ref sig .tc := ⟨.hbm, 71, rfl⟩
abbrev main_v39 : Ref sig .tc := ⟨.hbm, 72, rfl⟩
abbrev main_cst_11 : Ref sig .tc := ⟨.hbm, 73, rfl⟩
abbrev main_call5_v0 : Ref sig .tc := ⟨.hbm, 74, rfl⟩
abbrev main_v40 : Ref sig .tc := ⟨.hbm, 75, rfl⟩
abbrev main_cst_12 : Ref sig .tc := ⟨.hbm, 76, rfl⟩
abbrev main_v41 : Ref sig .tc := ⟨.hbm, 77, rfl⟩
abbrev main_cst_13 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_14 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩

abbrev nD : Nat := 1
abbrev τ : Topo := Topo.v7x

variable {F : FTy → Type} [FloatOps F]
-- ==== Proof.RingIdeal.lean ====
/-
  The streaming loop of the kernel, one trip at a symbolic trip number.

  The kernel leaves `x` (the 32768 x 2048 rows) in HBM and streams it through eight VMEM slots: 128 blocks of 256
  rows, block `8k + s` through slot `s` in trip `k`. Before trip `k` the eight blocks of that trip are in flight, one
  per slot; the trip waits for each, adds its column sums into the accumulator row of the block's batch and, unless
  it is the last trip, issues the same slot's next block. This module names the slots, their semaphore cells and the
  blocks, states the resources before a trip, and runs one trip: a middle trip, which refills every slot, and the
  last one, which leaves every slot idle. It is generic in the float values.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The pipeline library's algebra beside the counters of the kernel's own transfers. -/
abbrev UU (nD : Nat) (τ : Topo) : Type := UR sig nD τ × Counters
local notation "𝕄" => MT nD τ sig Unit (Elt F) ℕ (UU nD τ) ℕ

/-! ## Slots, cells and blocks -/

/-- The rows `x` in HBM, whole. -/
abbrev xM : Memref sig .tc .hbm S32768x2048 .f32 := Memref.whole main_v0
/-- The eight-slot VMEM buffer, whole. -/
abbrev bufM : Memref sig .tc .vmem S8x256x2048 .f32 := Memref.whole cc0_scratch0

/-- Block `(k, s)` starts at row `2048 k + 256 s`. -/
abbrev blkOff (k : Fin 16) (s : Fin 8) : Fin 2 → Nat := ![2048 * k.val + 256 * s.val, 0]
theorem blkOff_inb (k : Fin 16) (s : Fin 8) : ∀ a, blkOff k s a + S256x2048.size a ≤ S32768x2048.size a := by
  have := k.isLt; have := s.isLt; intro a; fin_cases a
  · show 2048 * k.val + 256 * s.val + 256 ≤ 32768; omega
  · show 0 + 2048 ≤ 2048; omega
abbrev slotOff (s : Fin 8) : Fin 3 → Nat := ![s.val, 0, 0]
theorem slotOff_inb (s : Fin 8) : ∀ a, slotOff s a + S1x256x2048.size a ≤ S8x256x2048.size a := by
  have := s.isLt; intro a; fin_cases a
  · show s.val + 1 ≤ 8; omega
  · show 0 + 256 ≤ 256; omega
  · show 0 + 2048 ≤ 2048; omega
abbrev semOff (s : Fin 8) : Fin 1 → Nat := ![s.val]
theorem semOff_inb (s : Fin 8) : ∀ a, semOff s a + S1.size a ≤ S8.size a := by
  have := s.isLt; intro a; fin_cases a; show s.val + 1 ≤ 8; omega

/-- Block `(k, s)` of `x`: its 256 rows. -/
def blk (k : Fin 16) (s : Fin 8) : Memref sig .tc .hbm S256x2048 .f32 :=
  xM.slice (Rect.unit (s := S32768x2048) (blkOff k s) S256x2048.size (blkOff_inb k s)) (fun _ => rfl)
/-- Slot `s` of the buffer. -/
def rslot (s : Fin 8) : Memref sig .tc .vmem S256x2048 .f32 :=
  (bufM.slice (Rect.unit (s := S8x256x2048) (slotOff s) S1x256x2048.size (slotOff_inb s)) (fun _ => rfl)).squeeze S256x2048 squeezes_S1x256x2048_S256x2048
/-- Slot `s`'s DMA semaphore. -/
def csm (s : Fin 8) : DmaSems sig S_ := (cc0_scratch1.slice (Rect.unit (s := S8) (semOff s) S1.size (semOff_inb s))).squeeze S_ squeezes_S1_S_

/-! ### The program's spellings of them -/

section Canon

private theorem csm_congr {off : Fin 1 → Nat} {s : Fin 8} (e : off = semOff s) (hh) :
    (cc0_scratch1.slice (Rect.unit (s := S8) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 8} (e : off = slotOff s) (hh hs) :
    (bufM.slice (Rect.unit (s := S8x256x2048) off S1x256x2048.size hh) hs).squeeze S256x2048 squeezes_S1x256x2048_S256x2048 = rslot s :=
  congrArg (fun M : Memref sig .tc .vmem S1x256x2048 .f32 => M.squeeze S256x2048 squeezes_S1x256x2048_S256x2048) (Memref.slice_unit_congr _ e _ _ _ _)
private theorem blk_congr {off : Fin 2 → Nat} {k : Fin 16} {s : Fin 8} (e : off = blkOff k s) (hh hs) :
    xM.slice (Rect.unit (s := S32768x2048) off S256x2048.size hh) hs = blk k s :=
  Memref.slice_unit_congr _ e _ _ _ (fun _ => rfl)

@[sl_canon] theorem semL0 (hh) : (cc0_scratch1.slice (Rect.unit (s := S8) ![0] S1.size hh)).squeeze S_ squeezes_S1_S_ = csm 0 := csm_congr (by decide) _
@[sl_canon] theorem slotL0 (hh hs) : (bufM.slice (Rect.unit (s := S8x256x2048) ![0, 0, 0] S1x256x2048.size hh) hs).squeeze S256x2048 squeezes_S1x256x2048_S256x2048 = rslot 0 := rslot_congr (by decide) _ _
@[sl_canon] theorem blkL0 (hh hs) : xM.slice (Rect.unit (s := S32768x2048) ![0, 0] S256x2048.size hh) hs = blk 0 0 := blk_congr (by decide) _ _
@[sl_canon] theorem semL1 (hh) : (cc0_scratch1.slice (Rect.unit (s := S8) ![1] S1.size hh)).squeeze S_ squeezes_S1_S_ = csm 1 := csm_congr (by decide) _
@[sl_canon] theorem slotL1 (hh hs) : (bufM.slice (Rect.unit (s := S8x256x2048) ![1, 0, 0] S1x256x2048.size hh) hs).squeeze S256x2048 squeezes_S1x256x2048_S256x2048 = rslot 1 := rslot_congr (by decide) _ _
@[sl_canon] theorem blkL1 (hh hs) : xM.slice (Rect.unit (s := S32768x2048) ![256, 0] S256x2048.size hh) hs = blk 0 1 := blk_congr (by decide) _ _
@[sl_canon] theorem semL2 (hh) : (cc0_scratch1.slice (Rect.unit (s := S8) ![2] S1.size hh)).squeeze S_ squeezes_S1_S_ = csm 2 := csm_congr (by decide) _
@[sl_canon] theorem slotL2 (hh hs) : (bufM.slice (Rect.unit (s := S8x256x2048) ![2, 0, 0] S1x256x2048.size hh) hs).squeeze S256x2048 squeezes_S1x256x2048_S256x2048 = rslot 2 := rslot_congr (by decide) _ _
@[sl_canon] theorem blkL2 (hh hs) : xM.slice (Rect.unit (s := S32768x2048) ![512, 0] S256x2048.size hh) hs = blk 0 2 := blk_congr (by decide) _ _
@[sl_canon] theorem semL3 (hh) : (cc0_scratch1.slice (Rect.unit (s := S8) ![3] S1.size hh)).squeeze S_ squeezes_S1_S_ = csm 3 := csm_congr (by decide) _
@[sl_canon] theorem slotL3 (hh hs) : (bufM.slice (Rect.unit (s := S8x256x2048) ![3, 0, 0] S1x256x2048.size hh) hs).squeeze S256x2048 squeezes_S1x256x2048_S256x2048 = rslot 3 := rslot_congr (by decide) _ _
@[sl_canon] theorem blkL3 (hh hs) : xM.slice (Rect.unit (s := S32768x2048) ![768, 0] S256x2048.size hh) hs = blk 0 3 := blk_congr (by decide) _ _
@[sl_canon] theorem semL4 (hh) : (cc0_scratch1.slice (Rect.unit (s := S8) ![4] S1.size hh)).squeeze S_ squeezes_S1_S_ = csm 4 := csm_congr (by decide) _
@[sl_canon] theorem slotL4 (hh hs) : (bufM.slice (Rect.unit (s := S8x256x2048) ![4, 0, 0] S1x256x2048.size hh) hs).squeeze S256x2048 squeezes_S1x256x2048_S256x2048 = rslot 4 := rslot_congr (by decide) _ _
@[sl_canon] theorem blkL4 (hh hs) : xM.slice (Rect.unit (s := S32768x2048) ![1024, 0] S256x2048.size hh) hs = blk 0 4 := blk_congr (by decide) _ _
@[sl_canon] theorem semL5 (hh) : (cc0_scratch1.slice (Rect.unit (s := S8) ![5] S1.size hh)).squeeze S_ squeezes_S1_S_ = csm 5 := csm_congr (by decide) _
@[sl_canon] theorem slotL5 (hh hs) : (bufM.slice (Rect.unit (s := S8x256x2048) ![5, 0, 0] S1x256x2048.size hh) hs).squeeze S256x2048 squeezes_S1x256x2048_S256x2048 = rslot 5 := rslot_congr (by decide) _ _
@[sl_canon] theorem blkL5 (hh hs) : xM.slice (Rect.unit (s := S32768x2048) ![1280, 0] S256x2048.size hh) hs = blk 0 5 := blk_congr (by decide) _ _
@[sl_canon] theorem semL6 (hh) : (cc0_scratch1.slice (Rect.unit (s := S8) ![6] S1.size hh)).squeeze S_ squeezes_S1_S_ = csm 6 := csm_congr (by decide) _
@[sl_canon] theorem slotL6 (hh hs) : (bufM.slice (Rect.unit (s := S8x256x2048) ![6, 0, 0] S1x256x2048.size hh) hs).squeeze S256x2048 squeezes_S1x256x2048_S256x2048 = rslot 6 := rslot_congr (by decide) _ _
@[sl_canon] theorem blkL6 (hh hs) : xM.slice (Rect.unit (s := S32768x2048) ![1536, 0] S256x2048.size hh) hs = blk 0 6 := blk_congr (by decide) _ _
@[sl_canon] theorem semL7 (hh) : (cc0_scratch1.slice (Rect.unit (s := S8) ![7] S1.size hh)).squeeze S_ squeezes_S1_S_ = csm 7 := csm_congr (by decide) _
@[sl_canon] theorem slotL7 (hh hs) : (bufM.slice (Rect.unit (s := S8x256x2048) ![7, 0, 0] S1x256x2048.size hh) hs).squeeze S256x2048 squeezes_S1x256x2048_S256x2048 = rslot 7 := rslot_congr (by decide) _ _
@[sl_canon] theorem blkL7 (hh hs) : xM.slice (Rect.unit (s := S32768x2048) ![1792, 0] S256x2048.size hh) hs = blk 0 7 := blk_congr (by decide) _ _

theorem trips_eq : k0_t1_loop.trips = 16 := by decide +kernel
/-- Trip `k` as a number below 16. -/
abbrev tk (k : Fin k0_t1_loop.trips) : Fin 16 := ⟨k.val, trips_eq ▸ k.isLt⟩
/-- The trip after a trip that is not the last. -/
abbrev tn (k : Fin k0_t1_loop.trips) (h : k.val + 1 < 16) : Fin 16 := ⟨k.val + 1, h⟩

@[sl_canon] theorem blkW0 (k : Fin k0_t1_loop.trips) (hh hs) :
    xM.slice (Rect.unit (s := S32768x2048) (k0_off1 k 0#32) S256x2048.size hh) hs = blk (tk k) 0 := blk_congr (k0_off1_eq k 0) _ _
@[sl_canon] theorem blkI0 (k : Fin k0_t1_loop.trips) (h : k.val + 1 < 16) (hh hs) :
    xM.slice (Rect.unit (s := S32768x2048) (k0_off2 k) S256x2048.size hh) hs = blk (tn k h) 0 :=
  blk_congr ((k0_off2_eq k).trans (by unfold blkOff; congr 1)) _ _
@[sl_canon] theorem blkW1 (k : Fin k0_t1_loop.trips) (hh hs) :
    xM.slice (Rect.unit (s := S32768x2048) (k0_off1 k 1#32) S256x2048.size hh) hs = blk (tk k) 1 := blk_congr (k0_off1_eq k 1) _ _
@[sl_canon] theorem blkI1 (k : Fin k0_t1_loop.trips) (h : k.val + 1 < 16) (hh hs) :
    xM.slice (Rect.unit (s := S32768x2048) (k0_off3 k) S256x2048.size hh) hs = blk (tn k h) 1 :=
  blk_congr ((k0_off3_eq k).trans (by unfold blkOff; congr 1)) _ _
@[sl_canon] theorem blkW2 (k : Fin k0_t1_loop.trips) (hh hs) :
    xM.slice (Rect.unit (s := S32768x2048) (k0_off1 k 2#32) S256x2048.size hh) hs = blk (tk k) 2 := blk_congr (k0_off1_eq k 2) _ _
@[sl_canon] theorem blkI2 (k : Fin k0_t1_loop.trips) (h : k.val + 1 < 16) (hh hs) :
    xM.slice (Rect.unit (s := S32768x2048) (k0_off4 k) S256x2048.size hh) hs = blk (tn k h) 2 :=
  blk_congr ((k0_off4_eq k).trans (by unfold blkOff; congr 1)) _ _
@[sl_canon] theorem blkW3 (k : Fin k0_t1_loop.trips) (hh hs) :
    xM.slice (Rect.unit (s := S32768x2048) (k0_off1 k 3#32) S256x2048.size hh) hs = blk (tk k) 3 := blk_congr (k0_off1_eq k 3) _ _
@[sl_canon] theorem blkI3 (k : Fin k0_t1_loop.trips) (h : k.val + 1 < 16) (hh hs) :
    xM.slice (Rect.unit (s := S32768x2048) (k0_off5 k) S256x2048.size hh) hs = blk (tn k h) 3 :=
  blk_congr ((k0_off5_eq k).trans (by unfold blkOff; congr 1)) _ _
@[sl_canon] theorem blkW4 (k : Fin k0_t1_loop.trips) (hh hs) :
    xM.slice (Rect.unit (s := S32768x2048) (k0_off1 k 4#32) S256x2048.size hh) hs = blk (tk k) 4 := blk_congr (k0_off1_eq k 4) _ _
@[sl_canon] theorem blkI4 (k : Fin k0_t1_loop.trips) (h : k.val + 1 < 16) (hh hs) :
    xM.slice (Rect.unit (s := S32768x2048) (k0_off6 k) S256x2048.size hh) hs = blk (tn k h) 4 :=
  blk_congr ((k0_off6_eq k).trans (by unfold blkOff; congr 1)) _ _
@[sl_canon] theorem blkW5 (k : Fin k0_t1_loop.trips) (hh hs) :
    xM.slice (Rect.unit (s := S32768x2048) (k0_off1 k 5#32) S256x2048.size hh) hs = blk (tk k) 5 := blk_congr (k0_off1_eq k 5) _ _
@[sl_canon] theorem blkI5 (k : Fin k0_t1_loop.trips) (h : k.val + 1 < 16) (hh hs) :
    xM.slice (Rect.unit (s := S32768x2048) (k0_off7 k) S256x2048.size hh) hs = blk (tn k h) 5 :=
  blk_congr ((k0_off7_eq k).trans (by unfold blkOff; congr 1)) _ _
@[sl_canon] theorem blkW6 (k : Fin k0_t1_loop.trips) (hh hs) :
    xM.slice (Rect.unit (s := S32768x2048) (k0_off1 k 6#32) S256x2048.size hh) hs = blk (tk k) 6 := blk_congr (k0_off1_eq k 6) _ _
@[sl_canon] theorem blkI6 (k : Fin k0_t1_loop.trips) (h : k.val + 1 < 16) (hh hs) :
    xM.slice (Rect.unit (s := S32768x2048) (k0_off8 k) S256x2048.size hh) hs = blk (tn k h) 6 :=
  blk_congr ((k0_off8_eq k).trans (by unfold blkOff; congr 1)) _ _
@[sl_canon] theorem blkW7 (k : Fin k0_t1_loop.trips) (hh hs) :
    xM.slice (Rect.unit (s := S32768x2048) (k0_off1 k 7#32) S256x2048.size hh) hs = blk (tk k) 7 := blk_congr (k0_off1_eq k 7) _ _
@[sl_canon] theorem blkI7 (k : Fin k0_t1_loop.trips) (h : k.val + 1 < 16) (hh hs) :
    xM.slice (Rect.unit (s := S32768x2048) (k0_off9 k) S256x2048.size hh) hs = blk (tn k h) 7 :=
  blk_congr ((k0_off9_eq k).trans (by unfold blkOff; congr 1)) _ _

end Canon

/-! ### Whether a trip refills its slots: all but the last -/

theorem cond1_iff : ∀ k : Fin k0_t1_loop.trips, k0_cond1 k = 1#1 ↔ k.val + 1 < 16 := by decide +kernel
theorem cond2_iff : ∀ k : Fin k0_t1_loop.trips, k0_cond2 k = 1#1 ↔ k.val + 1 < 16 := by decide +kernel
theorem cond3_iff : ∀ k : Fin k0_t1_loop.trips, k0_cond3 k = 1#1 ↔ k.val + 1 < 16 := by decide +kernel
theorem cond4_iff : ∀ k : Fin k0_t1_loop.trips, k0_cond4 k = 1#1 ↔ k.val + 1 < 16 := by decide +kernel
theorem cond5_iff : ∀ k : Fin k0_t1_loop.trips, k0_cond5 k = 1#1 ↔ k.val + 1 < 16 := by decide +kernel
theorem cond6_iff : ∀ k : Fin k0_t1_loop.trips, k0_cond6 k = 1#1 ↔ k.val + 1 < 16 := by decide +kernel
theorem cond7_iff : ∀ k : Fin k0_t1_loop.trips, k0_cond7 k = 1#1 ↔ k.val + 1 < 16 := by decide +kernel
theorem cond8_iff : ∀ k : Fin k0_t1_loop.trips, k0_cond8 k = 1#1 ↔ k.val + 1 < 16 := by decide +kernel

/-! ## The pieces: a block home, a slot held, a slot's cell, a slot in flight -/

section Pieces
variable (c : Dev nD) (XA : Buf (Elt F) (xM.view.loc (c : Thread nD τ)))

/-- Slot `s`'s cell at zero. -/
abbrev cellP (s : Fin 8) : sProp 𝕄 := semVal ((c : Thread nD τ), SemLoc.dma (csm s).sem) 0
/-- Slot `s` held at contents `f`. -/
abbrev slotP (s : Fin 8) (f : Buf (Elt F) ((rslot s).view.loc (c : Thread nD τ))) : sProp 𝕄 :=
  (rslot s).view.loc (c : Thread nD τ) ↦[(rslot s).view.set]{fullShare} f
/-- Block `(k, s)` home: held at the rows of `x`. -/
abbrev homeP (k : Fin 16) (s : Fin 8) : sProp 𝕄 := (blk k s).view.loc (c : Thread nD τ) ↦[(blk k s).view.set]{fullShare} XA
/-- The eight blocks of trip `k` home. -/
abbrev homeG (k : Fin 16) : sProp 𝕄 :=
  iprop(homeP c XA k 0 ∗ homeP c XA k 1 ∗ homeP c XA k 2 ∗ homeP c XA k 3 ∗ homeP c XA k 4 ∗ homeP c XA k 5 ∗ homeP c XA k 6 ∗ homeP c XA k 7)
/-- Block `(k, s)`'s words as a slot's payload. -/
abbrev payload (k : Fin 16) (s : Fin 8) : S256x2048.Idx → Elt F .f32 := ReadAs.same.apply ((blk k s).view.read (Elt F) XA)
/-- What block `(k, s)`'s transfer leaves in slot `s` over prior contents `f`. -/
abbrev landed (k : Fin 16) (s : Fin 8) (f : Buf (Elt F) ((rslot s).view.loc (c : Thread nD τ))) : Buf (Elt F) ((rslot s).view.loc (c : Thread nD τ)) :=
  (rslot s).view.writes (Elt F) f [⟨Rect.whole S256x2048, payload c XA k s⟩]
/-- Slot `s` in flight with block `(k, s)`, issued over `f`. -/
abbrev flightP (k : Fin 16) (s : Fin 8) (f : Buf (Elt F) ((rslot s).view.loc (c : Thread nD τ))) : sProp 𝕄 :=
  Transfers.Flight countersEmb (c : Thread nD τ) (SemLoc.dma (csm s).sem) () 65536 iprop(slotP c s (landed c XA k s f) ∗ homeP c XA k s)
/-- Slot `s` in flight with block `(k, s)`, whatever it held. -/
abbrev flyP (k : Fin 16) (s : Fin 8) : sProp 𝕄 := iprop(∃ f, flightP c XA k s f)
/-- Slot `s` idle: held at some contents, its cell at zero. -/
abbrev idleP (s : Fin 8) : sProp 𝕄 := iprop((∃ f, slotP (F := F) c s f) ∗ cellP c s)
/-- All eight slots in flight with the blocks of trip `k`. -/
abbrev flyG (k : Fin 16) : sProp 𝕄 :=
  iprop(flyP c XA k 0 ∗ flyP c XA k 1 ∗ flyP c XA k 2 ∗ flyP c XA k 3 ∗ flyP c XA k 4 ∗ flyP c XA k 5 ∗ flyP c XA k 6 ∗ flyP c XA k 7)
/-- All eight slots idle. -/
abbrev idleG : sProp 𝕄 :=
  iprop(idleP (F := F) c 0 ∗ idleP (F := F) c 1 ∗ idleP (F := F) c 2 ∗ idleP (F := F) c 3 ∗ idleP (F := F) c 4 ∗ idleP (F := F) c 5 ∗ idleP (F := F) c 6 ∗ idleP (F := F) c 7)

/-- The flight a trip issues, stated over the slot as the block before left it. -/
theorem flightP_after (s : Fin 8) (k k' : Fin 16) :
    flightP c XA k' s ((rslot s).view.writes (Elt F) (rslot s).view.junk [⟨Rect.whole S256x2048, payload c XA k s⟩])
      = Transfers.Flight countersEmb (c : Thread nD τ) (SemLoc.dma (csm s).sem) () 65536
          iprop(((rslot s).view.loc (c : Thread nD τ) ↦[(rslot s).view.set]{fullShare}
                  (rslot s).view.writes (Elt F) (rslot s).view.junk [⟨Rect.whole S256x2048, payload c XA k' s⟩, ⟨Rect.whole S256x2048, payload c XA k s⟩])
                ∗ homeP c XA k' s) := by
  simp only [flightP, landed, slotP, View.writes]

/-- A middle trip's homes: the next trip's blocks (about to go out) beside the rest. -/
theorem homes_here (k : ℕ) (hk : k + 1 < 16) :
    bigSep (Ring.homeSet 1 k) (homeG c XA) = iprop(homeG c XA ⟨k + 1, hk⟩ ∗ bigSep ((Ring.homeSet 1 k).erase (Ring.bk 16 (k + 1))) (homeG c XA)) := by
  conv_lhs => rw [Ring.homeSet_out 1 k hk, bigSep_insert (Ring.bkL_not_mem_erase 1 k)]
  rw [show (Ring.bk 16 (k + 1)) = ⟨k + 1, hk⟩ from Fin.ext (Ring.bk_val hk)]; rfl
/-- After it: its own blocks (just back) beside that rest. -/
theorem homes_next (k : ℕ) (hk : k + 1 < 16) :
    bigSep (Ring.homeSet 1 (k + 1)) (homeG c XA) = iprop(homeG c XA ⟨k, by omega⟩ ∗ bigSep ((Ring.homeSet 1 k).erase (Ring.bk 16 (k + 1))) (homeG c XA)) := by
  conv_lhs => rw [Ring.homeSet_succ 1 k hk, bigSep_insert (Ring.bk_not_mem_erase 1 k (by omega) (by decide))]
  rw [show (Ring.bk 16 k) = ⟨k, by omega⟩ from Fin.ext (Ring.bk_val (by omega))]; rfl
/-- After the last trip: its own blocks back beside all the others. -/
theorem homes_last :
    bigSep Finset.univ (homeG c XA) = iprop(homeG c XA 15 ∗ bigSep (Ring.homeSet 1 15) (homeG c XA)) := by
  conv_lhs => rw [show (Finset.univ : Finset (Fin 16)) = insert 15 (Ring.homeSet 1 15) by decide, bigSep_insert (by decide)]
  rfl

end Pieces

/-! ## One trip -/

section Trip

variable (c : Dev nD) (XA : Buf (Elt F) (xM.view.loc (c : Thread nD τ)))
  (arg1 : Memref sig .tc .vmem S2048x16 .f32) (harg1 : arg1.IsWhole)
  (arg2 : Memref sig .tc .vmem S1x16 .f32) (harg2 : arg2.IsWhole)
  (arg3 : Memref sig .tc .vmem S4x16 .f32) (harg3 : arg3.IsWhole)
  (arg4 : Memref sig .tc .vmem S4x16 .f32) (harg4 : arg4.IsWhole)
  (arg5 : Memref sig .tc .vmem S4x16 .f32) (harg5 : arg5.IsWhole)
  (v0 : IVec S4x1 32)

/-- The resources before trip `k`. -/
def resAt (k : Fin 16) : sProp 𝕄 :=
  iprop((∃ W, owes (c : Thread nD τ) 0 W) ∗ bigSep (Ring.homeSet 1 k.val) (homeG c XA) ∗ flyG c XA k)
/-- The resources after the last trip. -/
def resEnd : sProp 𝕄 :=
  iprop((∃ W, owes (c : Thread nD τ) 0 W) ∗ bigSep Finset.univ (homeG c XA) ∗ idleG (F := F) c)

abbrev tripG (k : Fin k0_t1_loop.trips) (acc : FVec F S4x2048 .f32) : Prog (TpuEff nD τ sig (Elt F) Λ₀ .tc) (FVec F S4x2048 .f32) :=
  k0_t1_body (F := F) xM (Memref.isWhole_whole _) arg1 harg1 arg2 harg2 arg3 harg3 arg4 harg4 arg5 harg5 bufM (Memref.isWhole_whole _) cc0_scratch1 v0 k acc

/-- What the load of slot `s` reads in trip `k`: the slot's window of the buffer, block `(k, s)` landed. -/
def ld (k : Fin 16) (s : Fin 8) : Vec F S1x256x2048 .f32 :=
  bufM.view.readAt (Elt F) (Rect.unit (s := S8x256x2048) (slotOff s) S1x256x2048.size (slotOff_inb s)).toLoadRect
    ((rslot s).view.writes (Elt F) (rslot s).view.junk [⟨Rect.whole S256x2048, payload c XA k s⟩])

end Trip

/-- One trip's accumulation, from the eight loaded slots: the kernel's payloads in order. -/
def stepAcc (v0 : IVec S4x1 32) (k : Fin k0_t1_loop.trips) (acc : FVec F S4x2048 .f32) (L : Fin 8 → Vec F S1x256x2048 .f32) : FVec F S4x2048 .f32 :=
  let iv : BitVec 32 := Scf.iv 0#32 1#32 k
  let g : BitVec 32 := Scalar.muli iv 8#32
  let a0 := k0_pay3 v0 0#32 1#32 k acc (L 0)
  let a1 := k0_pay6 a0 (k0_pay4 (L 1)) (k0_pay5 v0 iv) (Scalar.ofBits .f32 0x00000000#32)
  let a2 := k0_pay8 v0 a1 (k0_pay7 (L 2)) (Scalar.divsi (Scalar.addi g 2#32) 32#32) 0#1 1#1
  let a3 := k0_pay10 v0 a2 (Scalar.addi g 3#32) (k0_pay9 (L 3)) 32#32 (Scalar.divsi (Scalar.addi g 3#32) 32#32) 1#32 1#32 0#32
  let a4 := k0_pay12 v0 a3 (Scalar.addi g 4#32) (k0_pay11 (L 4)) 32#32 (Scalar.divsi (Scalar.addi g 4#32) 32#32) 1#32 0#32
  let a5 := k0_pay14 v0 a4 (Scalar.addi g 5#32) (k0_pay13 (L 5))
  let a6 := k0_pay15 v0 a5 (Scalar.addi g 6#32) (L 6)
  k0_pay16 v0 a6 (Scalar.addi g 7#32) (L 7)

section Trip2

variable (c : Dev nD) (XA : Buf (Elt F) (xM.view.loc (c : Thread nD τ)))
  (arg1 : Memref sig .tc .vmem S2048x16 .f32) (harg1 : arg1.IsWhole)
  (arg2 : Memref sig .tc .vmem S1x16 .f32) (harg2 : arg2.IsWhole)
  (arg3 : Memref sig .tc .vmem S4x16 .f32) (harg3 : arg3.IsWhole)
  (arg4 : Memref sig .tc .vmem S4x16 .f32) (harg4 : arg4.IsWhole)
  (arg5 : Memref sig .tc .vmem S4x16 .f32) (harg5 : arg5.IsWhole)
  (v0 : IVec S4x1 32)

set_option maxHeartbeats 4000000 in
set_option backward.proofsInPublic true in
/-- A middle trip: from the resources before it to those before the next. -/
theorem tripMid (k : Fin k0_t1_loop.trips) (hk : k.val + 1 < 16) (acc : FVec F S4x2048 .f32) :
      resAt c XA (tk k) ⊢ wp frame (wpE (defs₀ (F := F)) Variants.none (c : Thread nD τ) none) Set.univ
        (tripG arg1 harg1 arg2 harg2 arg3 harg3 arg4 harg4 arg5 harg5 v0 k acc)
        (fun r => iprop(⌜r = stepAcc v0 k acc (ld c XA (tk k))⌝ ∗ resAt c XA (tn k hk))) := by
  have h1 := (cond1_iff k).mpr hk
  have h2 := (cond2_iff k).mpr hk
  have h3 := (cond3_iff k).mpr hk
  have h4 := (cond4_iff k).mpr hk
  have h5 := (cond5_iff k).mpr hk
  have h6 := (cond6_iff k).mpr hk
  have h7 := (cond7_iff k).mpr hk
  have h8 := (cond8_iff k).mpr hk
  unfold resAt
  rw [homes_here c XA k.val hk, homes_next c XA k.val hk]
  iintro ⟨⟨%W, HW⟩, ⟨⟨Hg0, Hg1, Hg2, Hg3, Hg4, Hg5, Hg6, Hg7⟩, Hrest⟩, ⟨⟨%f0, HF0⟩, ⟨%f1, HF1⟩, ⟨%f2, HF2⟩, ⟨%f3, HF3⟩, ⟨%f4, HF4⟩, ⟨%f5, HF5⟩, ⟨%f6, HF6⟩, ⟨%f7, HF7⟩⟩⟩
  dsimp only [tripG]
  sl_unfold [k0_t1_body]
  sl_exec
  sl_step
  isplitr; · ipureintro; rfl
  isplitl [HW]; · iexists _; iexact HW
  isplitl [HF0_src HF1_src HF2_src HF3_src HF4_src HF5_src HF6_src HF7_src Hrest]
  · isplitl [HF0_src HF1_src HF2_src HF3_src HF4_src HF5_src HF6_src HF7_src]
    · isplitl [HF0_src]; · iexact HF0_src
      isplitl [HF1_src]; · iexact HF1_src
      isplitl [HF2_src]; · iexact HF2_src
      isplitl [HF3_src]; · iexact HF3_src
      isplitl [HF4_src]; · iexact HF4_src
      isplitl [HF5_src]; · iexact HF5_src
      isplitl [HF6_src]; · iexact HF6_src
      iexact HF7_src
    iexact Hrest
  isplitl [HF0]; · iexists ((rslot 0).view.writes (Elt F) (rslot 0).view.junk [⟨Rect.whole S256x2048, payload c XA (tk k) 0⟩]); irw [flightP_after]; iexact HF0
  isplitl [HF1]; · iexists ((rslot 1).view.writes (Elt F) (rslot 1).view.junk [⟨Rect.whole S256x2048, payload c XA (tk k) 1⟩]); irw [flightP_after]; iexact HF1
  isplitl [HF2]; · iexists ((rslot 2).view.writes (Elt F) (rslot 2).view.junk [⟨Rect.whole S256x2048, payload c XA (tk k) 2⟩]); irw [flightP_after]; iexact HF2
  isplitl [HF3]; · iexists ((rslot 3).view.writes (Elt F) (rslot 3).view.junk [⟨Rect.whole S256x2048, payload c XA (tk k) 3⟩]); irw [flightP_after]; iexact HF3
  isplitl [HF4]; · iexists ((rslot 4).view.writes (Elt F) (rslot 4).view.junk [⟨Rect.whole S256x2048, payload c XA (tk k) 4⟩]); irw [flightP_after]; iexact HF4
  isplitl [HF5]; · iexists ((rslot 5).view.writes (Elt F) (rslot 5).view.junk [⟨Rect.whole S256x2048, payload c XA (tk k) 5⟩]); irw [flightP_after]; iexact HF5
  isplitl [HF6]; · iexists ((rslot 6).view.writes (Elt F) (rslot 6).view.junk [⟨Rect.whole S256x2048, payload c XA (tk k) 6⟩]); irw [flightP_after]; iexact HF6
  iexists ((rslot 7).view.writes (Elt F) (rslot 7).view.junk [⟨Rect.whole S256x2048, payload c XA (tk k) 7⟩]); irw [flightP_after]; iexact HF7

set_option maxHeartbeats 4000000 in
set_option backward.proofsInPublic true in
/-- The last trip: it issues nothing, so every slot is left idle and every block is home. -/
theorem tripLast (k : Fin k0_t1_loop.trips) (hk : ¬ k.val + 1 < 16) (acc : FVec F S4x2048 .f32) :
      resAt c XA (tk k) ⊢ wp frame (wpE (defs₀ (F := F)) Variants.none (c : Thread nD τ) none) Set.univ
        (tripG arg1 harg1 arg2 harg2 arg3 harg3 arg4 harg4 arg5 harg5 v0 k acc)
        (fun r => iprop(⌜r = stepAcc v0 k acc (ld c XA (tk k))⌝ ∗ resEnd c XA)) := by
  have h1 := (not_congr (cond1_iff k)).mpr hk
  have h2 := (not_congr (cond2_iff k)).mpr hk
  have h3 := (not_congr (cond3_iff k)).mpr hk
  have h4 := (not_congr (cond4_iff k)).mpr hk
  have h5 := (not_congr (cond5_iff k)).mpr hk
  have h6 := (not_congr (cond6_iff k)).mpr hk
  have h7 := (not_congr (cond7_iff k)).mpr hk
  have h8 := (not_congr (cond8_iff k)).mpr hk
  have hk15 : tk k = 15 := Fin.ext (by have : k.val < 16 := (tk k).isLt; show k.val = 15; omega)
  unfold resAt resEnd
  rw [homes_last c XA, show (tk k).val = 15 from congrArg Fin.val hk15, ← hk15]
  iintro ⟨⟨%W, HW⟩, Hrest, ⟨⟨%f0, HF0⟩, ⟨%f1, HF1⟩, ⟨%f2, HF2⟩, ⟨%f3, HF3⟩, ⟨%f4, HF4⟩, ⟨%f5, HF5⟩, ⟨%f6, HF6⟩, ⟨%f7, HF7⟩⟩⟩
  dsimp only [tripG]
  sl_unfold [k0_t1_body]
  sl_exec
  sl_step
  isplitr; · ipureintro; rfl
  isplitl [HW]; · iexists _; iexact HW
  isplitl [HF0_src HF1_src HF2_src HF3_src HF4_src HF5_src HF6_src HF7_src Hrest]
  · isplitl [HF0_src HF1_src HF2_src HF3_src HF4_src HF5_src HF6_src HF7_src]
    · isplitl [HF0_src]; · iexact HF0_src
      isplitl [HF1_src]; · iexact HF1_src
      isplitl [HF2_src]; · iexact HF2_src
      isplitl [HF3_src]; · iexact HF3_src
      isplitl [HF4_src]; · iexact HF4_src
      isplitl [HF5_src]; · iexact HF5_src
      isplitl [HF6_src]; · iexact HF6_src
      iexact HF7_src
    iexact Hrest
  isplitl [HF0_dst HF0]
  · isplitl [HF0_dst]; · iexists _; iexact HF0_dst
    iexact HF0
  isplitl [HF1_dst HF1]
  · isplitl [HF1_dst]; · iexists _; iexact HF1_dst
    iexact HF1
  isplitl [HF2_dst HF2]
  · isplitl [HF2_dst]; · iexists _; iexact HF2_dst
    iexact HF2
  isplitl [HF3_dst HF3]
  · isplitl [HF3_dst]; · iexists _; iexact HF3_dst
    iexact HF3
  isplitl [HF4_dst HF4]
  · isplitl [HF4_dst]; · iexists _; iexact HF4_dst
    iexact HF4
  isplitl [HF5_dst HF5]
  · isplitl [HF5_dst]; · iexists _; iexact HF5_dst
    iexact HF5
  isplitl [HF6_dst HF6]
  · isplitl [HF6_dst]; · iexists _; iexact HF6_dst
    iexact HF6
  isplitl [HF7_dst]; · iexists _; iexact HF7_dst
  iexact HF7

/-- The resources before trip `k`, or after the last one. -/
def resSt (k : ℕ) : sProp 𝕄 := if h : k < 16 then resAt c XA ⟨k, h⟩ else resEnd c XA

/-- The accumulator before trip `k`, from the zeros the loop starts with. -/
def accAt : ℕ → FVec F S4x2048 .f32
  | 0 => k0_pay17
  | k + 1 => if h : k < k0_t1_loop.trips then stepAcc v0 ⟨k, h⟩ (accAt k) (ld c XA (tk ⟨k, h⟩)) else accAt k

/-- Any trip, from the resources and the accumulator before it to those after. -/
theorem trip (k : Fin k0_t1_loop.trips) :
      resSt c XA k.val ⊢ wp frame (wpE (defs₀ (F := F)) Variants.none (c : Thread nD τ) none) Set.univ
        (tripG arg1 harg1 arg2 harg2 arg3 harg3 arg4 harg4 arg5 harg5 v0 k (accAt c XA v0 k.val))
        (fun r => iprop(⌜r = accAt c XA v0 (k.val + 1)⌝ ∗ resSt c XA (k.val + 1))) := by
  have e : accAt c XA v0 (k.val + 1) = stepAcc v0 k (accAt c XA v0 k.val) (ld c XA (tk k)) := by
    rw [accAt, dif_pos k.isLt]
  have e0 : resSt c XA k.val = resAt c XA (tk k) := by unfold resSt; rw [dif_pos (tk k).isLt]
  rw [e, e0]
  by_cases hk : k.val + 1 < 16
  · rw [show resSt c XA (k.val + 1) = resAt c XA (tn k hk) from by unfold resSt; rw [dif_pos hk]]
    exact tripMid c XA arg1 harg1 arg2 harg2 arg3 harg3 arg4 harg4 arg5 harg5 v0 k hk _
  · rw [show resSt c XA (k.val + 1) = resEnd c XA from by unfold resSt; rw [dif_neg hk]]
    exact tripLast c XA arg1 harg1 arg2 harg2 arg3 harg3 arg4 harg4 arg5 harg5 v0 k hk _

end Trip2

end Cert.Proof.KernelIdealRun

end
-- ==== Proof.BodyIdeal.lean ====
/-
  The whole kernel body: it issues the first eight blocks, runs the sixteen trips and computes the three results from
  the accumulator, the similarity matrix and the gates. This module states what it leaves in the three result
  buffers and runs it. It is generic in the float values.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.RingIdeal
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow

@[expose] public section

set_option maxRecDepth 16384

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## What the body computes -/

/-- Which of a row's logits are among its eight greatest, the lower column first on ties: the kernel's count of the
    logits ahead of each one, compared with eight. -/
def rankMask (v53 : FVec F S4x2048 .f32) (v54 : Vec F S2048x16 .f32) : IVec S4x16 1 :=
  let v63 := k0_pay19 v53 v54
  let v80 : IVec S4x16 32 := iota .tc S4x16 32 [1] iota_S4x16_d1_w32
  let v146 := k0_pay28 v63 v80 (k0_pay24 v53 v54) (k0_pay26 v53 v54) (k0_pay27 v53 v54)
  let v237 := k0_pay31 v63 v80 (k0_pay29 v63 v80 v146) (k0_pay30 v63 v80) (Scalar.ofBits .f32 0x3F800000#32) (Scalar.ofBits .f32 0x00000000#32)
  k0_pay36 v63 v80 v237 (k0_pay33 v63) (k0_pay34 v63) (k0_pay35 v80)

/-- The mask the body stores, from the normalised pooled rows, the similarity matrix and the gates. -/
def outMask (v53 : FVec F S4x2048 .f32) (v54 : Vec F S2048x16 .f32) (v64 : Vec F S1x16 .f32) : FVec F S4x16 .f32 :=
  k0_pay1 (k0_pay22 v53 v54 v64) (k0_pay23 v53 v54 v64) (rankMask v53 v54) (Scalar.ofBits .f32 0x3F800000#32)
/-- The softmax the body stores. -/
def outSoft (v53 : FVec F S4x2048 .f32) (v54 : Vec F S2048x16 .f32) (v64 : Vec F S1x16 .f32) : FVec F S4x16 .f32 :=
  k0_pay2 (k0_pay21 v53 v54 v64) (k0_pay22 v53 v54 v64) (k0_pay23 v53 v54 v64) (rankMask v53 v54) (Scalar.ofBits .f32 0x3F800000#32)

/-- The batch number of each accumulator row. -/
abbrev rows : IVec S4x1 32 := iota .tc S4x1 32 [0] iota_S4x1_d0_w32

/-! ## The run -/

section Body

variable (c : Dev nD) (XA : Buf (Elt F) (xM.view.loc (c : Thread nD τ)))
  (arg1 : Memref sig .tc .vmem S2048x16 .f32) (harg1 : arg1.IsWhole)
  (arg2 : Memref sig .tc .vmem S1x16 .f32) (harg2 : arg2.IsWhole)
  (arg3 : Memref sig .tc .vmem S4x16 .f32) (harg3 : arg3.IsWhole)
  (arg4 : Memref sig .tc .vmem S4x16 .f32) (harg4 : arg4.IsWhole)
  (arg5 : Memref sig .tc .vmem S4x16 .f32) (harg5 : arg5.IsWhole)

/-- The body on the given staging memrefs, `x`, the buffer and the cells its own. -/
abbrev bodyG : Prog (TpuEff nD τ sig (Elt F) Λ₀ .tc) PUnit :=
  cc0__body xM (Memref.isWhole_whole _) arg1 harg1 arg2 harg2 arg3 harg3 arg4 harg4 arg5 harg5 bufM (Memref.isWhole_whole _) cc0_scratch1

abbrev simP (g1 : Buf (Elt F) (arg1.view.loc (c : Thread nD τ))) : sProp 𝕄 := arg1.view.loc (c : Thread nD τ) ↦[arg1.view.set]{fullShare} g1
abbrev gateP (g2 : Buf (Elt F) (arg2.view.loc (c : Thread nD τ))) : sProp 𝕄 := arg2.view.loc (c : Thread nD τ) ↦[arg2.view.set]{fullShare} g2
abbrev outP (arg : Memref sig .tc .vmem S4x16 .f32) (g : Buf (Elt F) (arg.view.loc (c : Thread nD τ))) : sProp 𝕄 :=
  arg.view.loc (c : Thread nD τ) ↦[arg.view.set]{fullShare} g
/-- A result buffer held at contents that read as `w`. -/
abbrev outIs (arg : Memref sig .tc .vmem S4x16 .f32) (w : FVec F S4x16 .f32) : sProp 𝕄 :=
  iprop(∃ g : Buf (Elt F) (arg.view.loc (c : Thread nD τ)), ⌜arg.view.read (Elt F) g = w⌝ ∗ outP c arg g)

abbrev R21 : Rect S2048x16 := Rect.unit (s := S2048x16) ![0, 0] S2048x16.size inb_S2048x16_S2048x16_0_0
abbrev R11 : Rect S1x16 := Rect.unit (s := S1x16) ![0, 0] S1x16.size inb_S1x16_S1x16_0_0
abbrev R41 : Rect S4x16 := Rect.unit (s := S4x16) ![0, 0] S4x16.size inb_S4x16_S4x16_0_0

/-- The body's loop as the invariant states it: the accumulator and the resources before trip `k`. -/
def inv (k : ℕ) (acc : FVec F S4x2048 .f32) : sProp 𝕄 := iprop(⌜acc = accAt c XA rows k⌝ ∗ resSt c XA k)

theorem homes_zero : bigSep Finset.univ (homeG c XA) = iprop(homeG c XA 0 ∗ bigSep (Ring.homeSet 1 0) (homeG c XA)) := by
  conv_lhs => rw [show (Finset.univ : Finset (Fin 16)) = insert 0 (Ring.homeSet 1 0) by decide, bigSep_insert (by decide)]
  rfl

/-- What the body is handed besides the staging buffers: every block home, every slot idle, the core owing nothing. -/
abbrev ownP : sProp 𝕄 := iprop(bigSep Finset.univ (homeG c XA) ∗ idleG (F := F) c)

/-- A whole-buffer store reads back as what it stored. -/
theorem read_store (arg : Memref sig .tc .vmem S4x16 .f32) (f : Buf (Elt F) (arg.view.loc (c : Thread nD τ))) (w : FVec F S4x16 .f32) :
    arg.view.read (Elt F) (arg.view.writes (Elt F) f [⟨R41, w⟩]) = w := View.read_writes_full _ _ _ _ _

set_option maxHeartbeats 4000000 in
set_option backward.proofsInPublic true in
/-- The body leaves the three results in their buffers and everything else as it found it. -/
theorem bodyRun (g1 g2 : _) (g3 g4 g5 : _) (W : Waits sig Unit) (Q : PUnit → sProp 𝕄) :
    iprop((simP c arg1 g1 ∗ gateP c arg2 g2 ∗ outP c arg3 g3 ∗ outP c arg4 g4 ∗ outP c arg5 g5 ∗ ownP c XA ∗ owes (c : Thread nD τ) 0 W)
        ∗ ((simP c arg1 g1 ∗ gateP c arg2 g2
            ∗ outIs c arg3 (outSoft (k0_pay18 (accAt c XA rows 16)) (arg1.view.readAt (Elt F) R21.toLoadRect g1) (arg2.view.readAt (Elt F) R11.toLoadRect g2))
            ∗ outIs c arg4 (k0_pay20 (k0_pay18 (accAt c XA rows 16)) (arg1.view.readAt (Elt F) R21.toLoadRect g1) (arg2.view.readAt (Elt F) R11.toLoadRect g2))
            ∗ outIs c arg5 (outMask (k0_pay18 (accAt c XA rows 16)) (arg1.view.readAt (Elt F) R21.toLoadRect g1) (arg2.view.readAt (Elt F) R11.toLoadRect g2))
            ∗ ownP c XA ∗ ∃ W, owes (c : Thread nD τ) 0 W) -∗ Q ⟨⟩))
      ⊢ wp frame (wpE (defs₀ (F := F)) Variants.none (c : Thread nD τ) none) Set.univ (bodyG arg1 harg1 arg2 harg2 arg3 harg3 arg4 harg4 arg5 harg5) Q := by
  unfold ownP
  iintro ⟨⟨H1, H2, H3, H4, H5, ⟨Hh, ⟨⟨⟨%f0, Hs0⟩, Hc0⟩, ⟨⟨%f1, Hs1⟩, Hc1⟩, ⟨⟨%f2, Hs2⟩, Hc2⟩, ⟨⟨%f3, Hs3⟩, Hc3⟩, ⟨⟨%f4, Hs4⟩, Hc4⟩, ⟨⟨%f5, Hs5⟩, Hc5⟩, ⟨⟨%f6, Hs6⟩, Hc6⟩, ⟨⟨%f7, Hs7⟩, Hc7⟩⟩⟩, HW⟩, Hk⟩
  ihave Hh := (Entails.of_eq (homes_zero c XA)) $$ Hh
  icases Hh with ⟨⟨Hg0, Hg1, Hg2, Hg3, Hg4, Hg5, Hg6, Hg7⟩, Hrest⟩
  sl_exec
  sl_for (inv c XA) $$ [HW Hrest Hc0 Hc1 Hc2 Hc3 Hc4 Hc5 Hc6 Hc7]
  · intro k acc
    unfold inv
    iintro ⟨%ha, H⟩
    subst ha
    iapply (trip c XA arg1 harg1 arg2 harg2 arg3 harg3 arg4 harg4 arg5 harg5 rows k)
    iexact H
  · unfold inv
    isplitr; · ipureintro; rfl
    rw [show resSt c XA 0 = resAt c XA 0 from by unfold resSt; rw [dif_pos (by decide)]; rfl]
    unfold resAt
    isplitl [HW]; · iexists _; iexact HW
    isplitl [Hrest]; · iexact Hrest
    isplitl [Hc0]; · iexists f0; iexact Hc0
    isplitl [Hc1]; · iexists f1; iexact Hc1
    isplitl [Hc2]; · iexists f2; iexact Hc2
    isplitl [Hc3]; · iexists f3; iexact Hc3
    isplitl [Hc4]; · iexists f4; iexact Hc4
    isplitl [Hc5]; · iexists f5; iexact Hc5
    isplitl [Hc6]; · iexists f6; iexact Hc6
    iexists f7; iexact Hc7
  iintro %acc
  rw [show Scf.trips k0_t1_loop.lb k0_t1_loop.ub k0_t1_loop.st = 16 from trips_eq]
  unfold inv
  rw [show resSt c XA 16 = resEnd c XA from by unfold resSt; rw [dif_neg (by decide)]]
  unfold resEnd
  iintro ⟨%ha, ⟨%W2, HW⟩, Hh, HI⟩
  subst ha
  sl_exec
  sl_step
  iapply Hk
  isplitl [H1]; · iexact H1
  isplitl [H2]; · iexact H2
  isplitl [H3]
  · iexists _; isplitr
    swap; · iexact H3
    ipureintro; exact read_store c arg3 _ _
  isplitl [H4]
  · iexists _; isplitr
    swap; · iexact H4
    ipureintro; exact read_store c arg4 _ _
  isplitl [H5]
  · iexists _; isplitr
    swap; · iexact H5
    ipureintro; exact read_store c arg5 _ _
  isplitl [Hh HI]
  · isplitl [Hh]; · iexact Hh
    iexact HI
  iexists _; iexact HW

end Body

end Cert.Proof.KernelIdealRun

end
-- ==== Proof.RunIdeal.lean ====
/-
  The launch of the kernel: the buffers' contents when the region is entered, the split of `x` into its 128 blocks and
  of the VMEM buffer into its eight slots, the pipeline's proof data, and the run of @main. The run ends with the
  arguments as they were, the three result arrays at the body's results and every semaphore counter at zero. It is
  generic in the float values.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.RingIdeal
public import proofs.«01_k».proof.Proof.BodyIdeal
public import Idealize.ShloMosaic.Lib.Pipeline.KitQuiescent
public import Idealize.ShloMosaic.Lib.Pipeline.Value
public import Idealize.ShloMosaic.Lib.Ring
public import Idealize.ShloMosaic.Lib.Affine
public import Idealize.ShloMosaic.Lib.Tactic
public import Idealize.ShloMosaic.Lib.VecWindow

@[expose] public section

set_option maxRecDepth 16384

noncomputable section

namespace Cert.Proof.KernelIdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ
local notation "EP" => (embL : Emb (UR sig nD τ) (MT nD τ sig Unit (Elt F) ℕ (UU nD τ) ℕ))

variable (m : (ℓ : Loc nD τ sig) → Buf (Elt F) ℓ) (ρ : Dev nD → PrngReg)

section Launch

omit [FloatOps F] in
theorem eoe {P Q : sProp 𝕄} (e : P = Q) : P ⊢ Q := e ▸ .rfl

/-- The rows `x` as the region finds them. -/
abbrev XA (c : Dev nD) : Buf (Elt F) (xM.view.loc (c : Thread nD τ)) := Gen.V m c main_v0

/-! ## The kernel's own semaphores: the eight slots' cells -/

abbrev osem : Fin 8 → SemLoc sig := fun s => .dma (csm s).sem
theorem ownSemFacts : Pipeline.OwnSemFacts spec0 osem := by decide

/-! ## Element sets: the 128 blocks, the eight slots -/

abbrev GB (b : Fin 16 × Fin 8) : Finset S32768x2048.Idx := (Rect.unit (s := S32768x2048) (blkOff b.1 b.2) S256x2048.size (blkOff_inb b.1 b.2)).set
abbrev SB (s : Fin 8) : Finset S8x256x2048.Idx := (Rect.unit (s := S8x256x2048) (slotOff s) S1x256x2048.size (slotOff_inb s)).set

theorem blk_set (k : Fin 16) (s : Fin 8) : (blk k s).view.set = GB (k, s) := View.set_slice_whole _ _
theorem rslot_set (s : Fin 8) : (rslot s).view.set = SB s := (View.set_reshape _ _).trans (View.set_slice_whole _ _)

theorem mem_GB (b : Fin 16 × Fin 8) (y : S32768x2048.Idx) : y ∈ GB b ↔ (y 0).val / 2048 = b.1.val ∧ (y 0).val % 2048 / 256 = b.2.val := by
  rw [Rect.mem_set_unit]
  have h1 : (y 1).val < 2048 := (y 1).isLt
  have hb := b.2.isLt
  constructor
  · intro H; have a0 : 2048 * b.1.val + 256 * b.2.val ≤ (y 0).val ∧ (y 0).val < 2048 * b.1.val + 256 * b.2.val + 256 := H 0; omega
  · intro H i; fin_cases i
    · show 2048 * b.1.val + 256 * b.2.val ≤ (y 0).val ∧ (y 0).val < 2048 * b.1.val + 256 * b.2.val + 256; omega
    · show 0 ≤ (y 1).val ∧ (y 1).val < 0 + 2048; omega
theorem mem_SB (s : Fin 8) (y : S8x256x2048.Idx) : y ∈ SB s ↔ (y 0).val = s.val := by
  rw [Rect.mem_set_unit]
  have h1 : (y 1).val < 256 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 2048; omega
theorem GB_disjoint : ∀ b b' : Fin 16 × Fin 8, b ≠ b' → Disjoint (GB b) (GB b') := by
  intro b b' hne; rw [Finset.disjoint_left]; intro y hy hy'; rw [mem_GB] at hy hy'
  exact hne (Prod.ext (Fin.ext (hy.1.symm.trans hy'.1)) (Fin.ext (hy.2.symm.trans hy'.2)))
theorem GB_cover : (Finset.univ : Finset (Fin 16 × Fin 8)).biUnion GB = Finset.univ := by
  ext y; simp only [Finset.mem_biUnion, Finset.mem_univ, true_and, iff_true]
  have h0 : (y 0).val < 32768 := (y 0).isLt
  exact ⟨(⟨(y 0).val / 2048, by omega⟩, ⟨(y 0).val % 2048 / 256, by omega⟩), by rw [mem_GB]; exact ⟨rfl, rfl⟩⟩
theorem SB_disjoint : ∀ s s' : Fin 8, s ≠ s' → Disjoint (SB s) (SB s') := by
  intro s s' hne; rw [Finset.disjoint_left]; intro y hy hy'; rw [mem_SB] at hy hy'; exact hne (Fin.ext (hy.symm.trans hy'))
theorem SB_cover : (Finset.univ : Finset (Fin 8)).biUnion SB = Finset.univ := by
  ext y; simp only [Finset.mem_biUnion, Finset.mem_univ, true_and, iff_true]; exact ⟨(y 0).cast (by decide), by rw [mem_SB]; rfl⟩

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ

/-- `x` whole is its 128 blocks home, trip by trip. -/
theorem x_eq (c : Dev nD) (X : Buf (Elt F) (xM.view.loc (c : Thread nD τ))) :
    (((c : Thread nD τ).loc main_v0) ↦{fullShare} X : sProp 𝕄) = bigSep Finset.univ (homeG c X) := by
  rw [Ring.pointsTo_blocks (ℓ := (c : Thread nD τ).loc main_v0) GB GB_disjoint GB_cover, BI.bigSep_univ_prod]
  refine bigSep_congr fun k _ => ?_
  rw [bigSep_fin8]
  simp only [← blk_set]
  rfl

theorem slotP_eq (c : Dev nD) (s : Fin 8) (f) : slotP c s f = (((c : Thread nD τ).loc cc0_scratch0) ↦[SB s]{fullShare} f : sProp 𝕄) :=
  congrArg (fun S => (_ ↦[S]{fullShare} f : sProp 𝕄)) (rslot_set s)

/-- The buffer whole is its eight slots, and back. -/
theorem buf_split (c : Dev nD) :
    iprop(∃ f : Buf (Elt F) ((c : Thread nD τ).loc cc0_scratch0), ((c : Thread nD τ).loc cc0_scratch0) ↦{fullShare} f)
      ⊢ (iprop((∃ f, slotP (F := F) c 0 f) ∗ (∃ f, slotP (F := F) c 1 f) ∗ (∃ f, slotP (F := F) c 2 f) ∗ (∃ f, slotP (F := F) c 3 f) ∗ (∃ f, slotP (F := F) c 4 f) ∗ (∃ f, slotP (F := F) c 5 f) ∗ (∃ f, slotP (F := F) c 6 f) ∗ (∃ f, slotP (F := F) c 7 f)) : sProp 𝕄) := by
  iintro ⟨%f, H⟩
  ihave HX := (eoe ((Ring.pointsTo_blocks (Ix := Unit) (Name := ℕ) (U := UU nD τ) (Lvl := ℕ) (q := fullShare) (ℓ := (c : Thread nD τ).loc cc0_scratch0) SB SB_disjoint SB_cover f).trans (bigSep_fin8 _))) $$ H
  icases HX with ⟨H0, H1, H2, H3, H4, H5, H6, H7⟩
  isplitl [H0]; · iexists f; iapply (eoe (slotP_eq c 0 f).symm); iexact H0
  isplitl [H1]; · iexists f; iapply (eoe (slotP_eq c 1 f).symm); iexact H1
  isplitl [H2]; · iexists f; iapply (eoe (slotP_eq c 2 f).symm); iexact H2
  isplitl [H3]; · iexists f; iapply (eoe (slotP_eq c 3 f).symm); iexact H3
  isplitl [H4]; · iexists f; iapply (eoe (slotP_eq c 4 f).symm); iexact H4
  isplitl [H5]; · iexists f; iapply (eoe (slotP_eq c 5 f).symm); iexact H5
  isplitl [H6]; · iexists f; iapply (eoe (slotP_eq c 6 f).symm); iexact H6
  iexists f; iapply (eoe (slotP_eq c 7 f).symm); iexact H7
theorem buf_join (c : Dev nD) :
    iprop((∃ f, slotP (F := F) c 0 f) ∗ (∃ f, slotP (F := F) c 1 f) ∗ (∃ f, slotP (F := F) c 2 f) ∗ (∃ f, slotP (F := F) c 3 f) ∗ (∃ f, slotP (F := F) c 4 f) ∗ (∃ f, slotP (F := F) c 5 f) ∗ (∃ f, slotP (F := F) c 6 f) ∗ (∃ f, slotP (F := F) c 7 f))
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iapply (Ring.pointsTo_blocks_join_exists (ℓ := (c : Thread nD τ).loc cc0_scratch0) SB SB_disjoint SB_cover f0)
  irw [bigSep_fin8]
  isplitl [H0]; · iexists f0; iapply (eoe (slotP_eq c 0 f0)); iexact H0
  isplitl [H1]; · iexists f1; iapply (eoe (slotP_eq c 1 f1)); iexact H1
  isplitl [H2]; · iexists f2; iapply (eoe (slotP_eq c 2 f2)); iexact H2
  isplitl [H3]; · iexists f3; iapply (eoe (slotP_eq c 3 f3)); iexact H3
  isplitl [H4]; · iexists f4; iapply (eoe (slotP_eq c 4 f4)); iexact H4
  isplitl [H5]; · iexists f5; iapply (eoe (slotP_eq c 5 f5)); iexact H5
  isplitl [H6]; · iexists f6; iapply (eoe (slotP_eq c 6 f6)); iexact H6
  iexists f7; iapply (eoe (slotP_eq c 7 f7)); iexact H7

/-- The kernel's own cells at zero are the eight slots' cells. -/
theorem ownSems0_eq (c : Dev nD) : (Pipeline.ownSems0 (Ix := Unit) (Name := ℕ) (U := UU nD τ) (Lvl := ℕ) (Val := Elt F) (τ := τ) osem c : sProp 𝕄)
    = iprop(cellP (F := F) c 0 ∗ cellP (F := F) c 1 ∗ cellP (F := F) c 2 ∗ cellP (F := F) c 3 ∗ cellP (F := F) c 4 ∗ cellP (F := F) c 5 ∗ cellP (F := F) c 6 ∗ cellP (F := F) c 7) := by
  unfold Pipeline.ownSems0; rw [bigSep_fin8]

/-! ## The pipeline's proof data -/

abbrev hst0 (t : Fin cfg0.N) : (st0_0 t).IsWhole := hstage0_0 0
abbrev hst1 (t : Fin cfg0.N) : (st0_1 t).IsWhole := hstage0_1 0
abbrev hst2 (t : Fin cfg0.N) : (st0_2 t).IsWhole := hstage0_2 0
abbrev hst3 (t : Fin cfg0.N) : (st0_3 t).IsWhole := hstage0_3 0
abbrev hst4 (t : Fin cfg0.N) : (st0_4 t).IsWhole := hstage0_4 0

/-- The pooled rows, normalised, as the body computes them from `x`. -/
def pooledN (c : Dev nD) : FVec F S4x2048 .f32 := k0_pay18 (accAt c (XA m c) rows 16)
/-- The similarity matrix as the region finds it. -/
abbrev simV (c : Dev nD) : Vec F S2048x16 .f32 := Gen.V m c main_arg1
/-- The gates as the region finds them, a row. -/
abbrev gateV (c : Dev nD) : Vec F S1x16 .f32 := Gen.V m c main_v1

/-- The three results: the softmax, the gated logits, the mask. -/
def res0 (c : Dev nD) : FVec F S4x16 .f32 := outSoft (pooledN m c) (simV m c) (gateV m c)
def res1 (c : Dev nD) : FVec F S4x16 .f32 := k0_pay20 (pooledN m c) (simV m c) (gateV m c)
def res2 (c : Dev nD) : FVec F S4x16 .f32 := outMask (pooledN m c) (simV m c) (gateV m c)

/-- The region invariant, the same before and after the one point. -/
def Φ (c : Dev nD) : sProp 𝕄 := ownP c (XA m c)

def dats (_ : Fin 1) (c : Dev nD) : Dat τ (Elt F) Unit ℕ (UU nD τ) ℕ cfg0 c where
  A w := Gen.V m c (Pipeline.arrRef spec0 w)
  after w t := match w with
    | ⟨0, _⟩ => iblk m c 0 t
    | ⟨1, _⟩ => iblk m c 1 t
    | ⟨2, _⟩ => res0 m c
    | ⟨3, _⟩ => res1 m c
    | ⟨4, _⟩ => res2 m c
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = res0 m c := by dsimp only [dats]
theorem after_w3 (c : Dev nD) (t : Fin cfg0.N) : (dats m 0 c).after 3 t = res1 m c := by dsimp only [dats]
theorem after_w4 (c : Dev nD) (t : Fin cfg0.N) : (dats m 0 c).after 4 t = res2 m c := by dsimp only [dats]

/-- The similarity matrix's one block is the whole matrix; -/
theorem iblk0 (c : Dev nD) (t : Fin cfg0.N) : iblk m c 0 t = simV m c := by
  have hz' : (fun a => win0_0.index t a * main_arg1.ty.shape.size a) = fun _ => 0 := by
    rcases fin_N0 t with rfl; exact funext fun a => by fin_cases a <;> decide +kernel
  exact Memref.read_access_unit_zero (Elt F) main_arg1 hz' (fun a => by rw [congrFun hz' a]; simp) (simV m c)
/-- and the gates' the whole row. -/
theorem iblk1 (c : Dev nD) (t : Fin cfg0.N) : iblk m c 1 t = gateV m c := by
  have hz' : (fun a => win0_1.index t a * main_v1.ty.shape.size a) = fun _ => 0 := by
    rcases fin_N0 t with rfl; exact funext fun a => by fin_cases a <;> decide +kernel
  exact Memref.read_access_unit_zero (Elt F) main_v1 hz' (fun a => by rw [congrFun hz' a]; simp) (gateV m c)

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0) := rfl
theorem prog_eq (t : Fin cfg0.N) : (defs₀ (F := F)) .tc cfg0.body (cfg0.bodyArgs t (cfg0.slots t))
    = bodyG (st0_0 t) (hst0 t) (st0_1 t) (hst1 t) (st0_2 t) (hst2 t) (st0_3 t) (hst3 t) (st0_4 t) (hst4 t) :=
  (congrFun defs_tc _).trans rfl

/-- The loads of the whole staging buffers read the matrix and the gates. -/
theorem load0 (c : Dev nD) (t : Fin cfg0.N) :
    (st0_0 t).view.readAt (Elt F) R21.toLoadRect ((st0_0 t).view.rep (iblk m c 0 t)) = simV m c := by
  exact (View.readAt_full (st0_0 t).view _ _).trans ((View.read_rep _ _).trans (iblk0 m c t))
theorem load1 (c : Dev nD) (t : Fin cfg0.N) :
    (st0_1 t).view.readAt (Elt F) R11.toLoadRect ((st0_1 t).view.rep (iblk m c 1 t)) = gateV m c := by
  exact (View.readAt_full (st0_1 t).view _ _).trans ((View.read_rep _ _).trans (iblk1 m c t))

set_option backward.isDefEq.respectTransparency.types false in
/-- The body at the one point: from the pipeline's resources there to those after it. -/
theorem body_obligation (c : Dev nD) : BodyObligation (dats (F := F) m 0 c) (defs₀ (F := F)) Variants.none () Set.univ := fun t => by
  rw [bigSep_W0, bigSep_W0]
  dsimp only
  simp only [before_w0, before_w1, after_w0, after_w1, after_w2, after_w3, after_w4]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨HO, ⟨%W, -, HW⟩, ⟨%d0, %g0, %hg0, H0⟩, ⟨%d1, %g1, %hg1, H1⟩, ⟨%d2, %g2, -, H2⟩, ⟨%d3, %g3, -, H3⟩, ⟨%d4, %g4, -, H4⟩⟩
  ihave H0' := (pointsTo_rep_entails (c : Thread nD τ) (st0_0 t) g0 fullShare) $$ H0
  ihave H1' := (pointsTo_rep_entails (c : Thread nD τ) (st0_1 t) g1 fullShare) $$ H1
  rw [hg0, hg1]
  sl_rw [prog_eq t]
  iapply (bodyRun c (XA m c) (st0_0 t) (hst0 t) (st0_1 t) (hst1 t) (st0_2 t) (hst2 t) (st0_3 t) (hst3 t) (st0_4 t) (hst4 t) _ _ g2 g3 g4 W)
  isplitl [H0' H1' H2 H3 H4 HO HW]
  · isplitl [H0']; · iexact H0'
    isplitl [H1']; · iexact H1'
    isplitl [H2]; · iexact H2
    isplitl [H3]; · iexact H3
    isplitl [H4]; · iexact H4
    isplitl [HO]; · iexact HO
    iexact HW
  · rw [load0, load1]
    iintro ⟨H0, H1, ⟨%o2, %h2, H2⟩, ⟨%o3, %h3, H3⟩, ⟨%o4, %h4, H4⟩, HO, ⟨%W', HW⟩⟩
    isplitl [HO]; · iexact HO
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists o2; isplitr; · ipureintro; exact h2
      iexact H2
    isplitl [H3]
    · iexists o3; isplitr; · ipureintro; exact h3
      iexact H3
    iexists o4; isplitr; · ipureintro; exact h4
    iexact H4

/-! ## The run -/

def intoΦ (c : Dev nD) : sProp 𝕄 := iprop(bigSep Finset.univ (homeG c (XA m c)) ∗ Pipeline.ownSems0 osem c)
/-- The two arguments no window stages, kept aside. -/
def keepP (c : Dev nD) : sProp 𝕄 :=
  iprop((((c : Thread nD τ).loc main_arg0) ↦{fullShare} Gen.V m c main_arg0) ∗ (((c : Thread nD τ).loc main_arg2) ↦{fullShare} Gen.V m c main_arg2))
def u₀ : UU nD τ := (initOf (Pipeline.cells cfgs Cert.KernelIdeal.Gen.cellOf_inj) (Pipeline.launchToks cfgs Cert.KernelIdeal.Gen.cellOf_inj), 1)
def QY (c : Dev nD) (s : MemSt nD τ sig (Elt F)) : Prop :=
  s.mem ((c : Thread nD τ).loc main_arg0) = Gen.V m c main_arg0 ∧ s.mem ((c : Thread nD τ).loc main_arg2) = Gen.V m c main_arg2
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

set_option backward.isDefEq.respectTransparency.types false in
/-- From any memory with zero counters, every weakly fair execution of @main terminates, and every final state has the
    windows' arrays at their contents after the one point, the other arguments unchanged and every counter at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ Variants.none m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => Gen.V m c b)
    (hmain := Pipeline.hmain_prefix cfgs 0 defs₀ Variants.none m main hostOps0 hostOps0_sub hostOps0_fresh main_chain)
    (hA := fun _ _ => rfl)
    (X := intoΦ m) (Y := fun _ => iprop(emp)) (Z := keepP m)
    (hX := fun c => by
      rw [unscopedRest0_eq, x_eq c]
      unfold intoΦ keepP
      iintro ⟨⟨HA0, HA2, H0⟩, HS, -, -, -⟩; imodintro
      isplitl [H0 HS]
      · isplitl [H0]; · iexact H0
        iexact HS
      isplitl [HA0]; · iexact HA0
      iexact HA2)
    (hin := fun c => by
      rw [scopedRest0_eq, show (dats m 0 c).Φ 0 = Φ m c from rfl]
      unfold intoΦ Φ; rw [ownSems0_eq]
      iintro ⟨⟨H0, Hc0, Hc1, Hc2, Hc3, Hc4, Hc5, Hc6, Hc7⟩, Hb⟩
      ihave Hs := (buf_split c) $$ Hb
      icases Hs with ⟨Hs0, Hs1, Hs2, Hs3, Hs4, Hs5, Hs6, Hs7⟩
      isplitl [H0]; · iexact H0
      isplitl [Hs0 Hc0]
      · isplitl [Hs0]; · iexact Hs0
        iexact Hc0
      isplitl [Hs1 Hc1]
      · isplitl [Hs1]; · iexact Hs1
        iexact Hc1
      isplitl [Hs2 Hc2]
      · isplitl [Hs2]; · iexact Hs2
        iexact Hc2
      isplitl [Hs3 Hc3]
      · isplitl [Hs3]; · iexact Hs3
        iexact Hc3
      isplitl [Hs4 Hc4]
      · isplitl [Hs4]; · iexact Hs4
        iexact Hc4
      isplitl [Hs5 Hc5]
      · isplitl [Hs5]; · iexact Hs5
        iexact Hc5
      isplitl [Hs6 Hc6]
      · isplitl [Hs6]; · iexact Hs6
        iexact Hc6
      isplitl [Hs7]; · iexact Hs7
      iexact Hc7)
    (hout := fun c => by
      rw [scopedRest0_eq, show (dats m 0 c).Φ (Fin.last cfg0.N) = Φ m c from rfl, ownSems0_eq]
      unfold Φ
      iintro ⟨-, ⟨⟨Hs0, Hc0⟩, ⟨Hs1, Hc1⟩, ⟨Hs2, Hc2⟩, ⟨Hs3, Hc3⟩, ⟨Hs4, Hc4⟩, ⟨Hs5, Hc5⟩, ⟨Hs6, Hc6⟩, ⟨Hs7, Hc7⟩⟩⟩
      isplitr; · iempintro
      isplitl [Hc0 Hc1 Hc2 Hc3 Hc4 Hc5 Hc6 Hc7]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        iexact Hc7
      iapply (buf_join c)
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7)
    (QY := QY m)
    (hY := fun c s' => by
      unfold keepP
      iintro ⟨-, ⟨H0, H2⟩, HSI⟩
      icombine HSI H0 gives %h0
      icombine HSI H2 gives %h2
      imodintro
      isplitr; · ipureintro; exact ⟨Buf.eq_of_forall_mem_univ h0, Buf.eq_of_forall_mem_univ h2⟩
      iexact HSI)
    (hQ := fun _ hh hz => ⟨hh, hz⟩)

/-- The result arrays end at the body's results. -/
theorem final2 (c : Dev nD) : (dats m 0 c).arrAt 2 cfg0.N = res0 m c := by
  refine (dats m 0 c).arrAt_eq_of_cover 2 (res0 m c) (fun t _ => ?_) fun i => ⟨t0_0, flush0_2 _, ?_⟩
  · show (cfg0.win 2).cut (grid0.coords t) ((dats m 0 c).after 2 t) = _
    rw [after_w2]
    have hz' : (fun a => win0_2.index t a * main_v2_0.ty.shape.size a) = fun _ => 0 := by
      rcases fin_N0 t with rfl; exact funext fun a => by fin_cases a <;> decide +kernel
    exact (Memref.read_access_unit_zero (Elt F) main_v2_0 hz' (fun a => by rw [congrFun hz' a]; simp) (res0 m c)).symm
  · show i ∈ ((View.whole main_v2_0).slice (win0_2.rect t0_0)).set
    rw [View.set_slice_whole, Rect.mem_set_unit]
    intro a
    have h0 : (i 0 : Nat) < 4 := (i 0).isLt
    have h1 : (i 1 : Nat) < 16 := (i 1).isLt
    match a with
    | ⟨0, _⟩ => show win0_2.index t0_0 0 * win0_2.size 0 ≤ (i 0 : Nat) ∧ (i 0 : Nat) < win0_2.index t0_0 0 * win0_2.size 0 + win0_2.xsize (grid0.coords t0_0) 0
                rw [show win0_2.index t0_0 0 * win0_2.size 0 = 0 from by decide +kernel, show win0_2.xsize (grid0.coords t0_0) 0 = 4 from by decide +kernel]; omega
    | ⟨1, _⟩ => show win0_2.index t0_0 1 * win0_2.size 1 ≤ (i 1 : Nat) ∧ (i 1 : Nat) < win0_2.index t0_0 1 * win0_2.size 1 + win0_2.xsize (grid0.coords t0_0) 1
                rw [show win0_2.index t0_0 1 * win0_2.size 1 = 0 from by decide +kernel, show win0_2.xsize (grid0.coords t0_0) 1 = 16 from by decide +kernel]; omega
theorem final3 (c : Dev nD) : (dats m 0 c).arrAt 3 cfg0.N = res1 m c := by
  refine (dats m 0 c).arrAt_eq_of_cover 3 (res1 m c) (fun t _ => ?_) fun i => ⟨t0_0, flush0_3 _, ?_⟩
  · show (cfg0.win 3).cut (grid0.coords t) ((dats m 0 c).after 3 t) = _
    rw [after_w3]
    have hz' : (fun a => win0_3.index t a * main_v2_1.ty.shape.size a) = fun _ => 0 := by
      rcases fin_N0 t with rfl; exact funext fun a => by fin_cases a <;> decide +kernel
    exact (Memref.read_access_unit_zero (Elt F) main_v2_1 hz' (fun a => by rw [congrFun hz' a]; simp) (res1 m c)).symm
  · show i ∈ ((View.whole main_v2_1).slice (win0_3.rect t0_0)).set
    rw [View.set_slice_whole, Rect.mem_set_unit]
    intro a
    have h0 : (i 0 : Nat) < 4 := (i 0).isLt
    have h1 : (i 1 : Nat) < 16 := (i 1).isLt
    match a with
    | ⟨0, _⟩ => show win0_3.index t0_0 0 * win0_3.size 0 ≤ (i 0 : Nat) ∧ (i 0 : Nat) < win0_3.index t0_0 0 * win0_3.size 0 + win0_3.xsize (grid0.coords t0_0) 0
                rw [show win0_3.index t0_0 0 * win0_3.size 0 = 0 from by decide +kernel, show win0_3.xsize (grid0.coords t0_0) 0 = 4 from by decide +kernel]; omega
    | ⟨1, _⟩ => show win0_3.index t0_0 1 * win0_3.size 1 ≤ (i 1 : Nat) ∧ (i 1 : Nat) < win0_3.index t0_0 1 * win0_3.size 1 + win0_3.xsize (grid0.coords t0_0) 1
                rw [show win0_3.index t0_0 1 * win0_3.size 1 = 0 from by decide +kernel, show win0_3.xsize (grid0.coords t0_0) 1 = 16 from by decide +kernel]; omega
theorem final4 (c : Dev nD) : (dats m 0 c).arrAt 4 cfg0.N = res2 m c := by
  refine (dats m 0 c).arrAt_eq_of_cover 4 (res2 m c) (fun t _ => ?_) fun i => ⟨t0_0, flush0_4 _, ?_⟩
  · show (cfg0.win 4).cut (grid0.coords t) ((dats m 0 c).after 4 t) = _
    rw [after_w4]
    have hz' : (fun a => win0_4.index t a * main_v2_2.ty.shape.size a) = fun _ => 0 := by
      rcases fin_N0 t with rfl; exact funext fun a => by fin_cases a <;> decide +kernel
    exact (Memref.read_access_unit_zero (Elt F) main_v2_2 hz' (fun a => by rw [congrFun hz' a]; simp) (res2 m c)).symm
  · show i ∈ ((View.whole main_v2_2).slice (win0_4.rect t0_0)).set
    rw [View.set_slice_whole, Rect.mem_set_unit]
    intro a
    have h0 : (i 0 : Nat) < 4 := (i 0).isLt
    have h1 : (i 1 : Nat) < 16 := (i 1).isLt
    match a with
    | ⟨0, _⟩ => show win0_4.index t0_0 0 * win0_4.size 0 ≤ (i 0 : Nat) ∧ (i 0 : Nat) < win0_4.index t0_0 0 * win0_4.size 0 + win0_4.xsize (grid0.coords t0_0) 0
                rw [show win0_4.index t0_0 0 * win0_4.size 0 = 0 from by decide +kernel, show win0_4.xsize (grid0.coords t0_0) 0 = 4 from by decide +kernel]; omega
    | ⟨1, _⟩ => show win0_4.index t0_0 1 * win0_4.size 1 ≤ (i 1 : Nat) ∧ (i 1 : Nat) < win0_4.index t0_0 1 * win0_4.size 1 + win0_4.xsize (grid0.coords t0_0) 1
                rw [show win0_4.index t0_0 1 * win0_4.size 1 = 0 from by decide +kernel, show win0_4.xsize (grid0.coords t0_0) 1 = 16 from by decide +kernel]; omega

/-- The run read at the program's buffers: the three results, the arguments unchanged, the counters zero. -/
theorem run : θ_run defs (onTc (τ := τ) (main (F := F))) ⟨m, fun _ => 0, ρ⟩ (fun r =>
    (∀ c : Dev nD, (r.2.mem ((c.tc : Thread nD τ).loc main_v2_0) = res0 m c
      ∧ r.2.mem ((c.tc : Thread nD τ).loc main_v2_1) = res1 m c
      ∧ r.2.mem ((c.tc : Thread nD τ).loc main_v2_2) = res2 m c)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)))
    ∧ r.2.sem = fun _ => 0) :=
  (θ_run defs _ _).mono (fun _ hh => ⟨fun c => ⟨⟨((hh.1 c).1 2).trans (final2 m c), ((hh.1 c).1 3).trans (final3 m c), ((hh.1 c).1 4).trans (final4 m c)⟩,
      (hh.1 c).2.1.trans (Gen.V_main_arg0 m c), ((hh.1 c).1 0).trans (((dats (F := F) m 0 c).arrAt_in 0 rfl _).trans (Gen.V_main_arg1 m c)),
      (hh.1 c).2.2.trans (Gen.V_main_arg2 m c)⟩, hh.2⟩) (run_main (F := F) m ρ)

end Launch

end Cert.Proof.KernelIdealRun

end
-- ==== Proof.Frames.lean ====
/- The three frames: every run of the kernel (at both float instances) and of the reference ends, with the
   arguments unchanged and every semaphore counter at zero. -/
module

public import proofs.«01_k».proof.Defs
public import proofs.«01_k».proof.Proof.RunIdeal
public import proofs.«01_k».proof.Proof.RunKernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The printed kernel ends from every memory, its three arguments unchanged and every semaphore at zero. -/
theorem frame_p : Cert.quiescent_Kernel := fun m ρ _ =>
  (θ_run _ _ _).mono (fun _ h => ⟨fun c => (h.1 c).2, h.2⟩) (Cert.Proof.KernelRun.run (F := Bits) m ρ)

/-- The kernel over the extended reals ends from every memory, its three arguments unchanged and every semaphore at
    zero. -/
theorem frame_pi : Cert.quiescent_KernelIdeal := fun m ρ _ =>
  (θ_run _ _ _).mono (fun _ h => ⟨fun c => (h.1 c).2, h.2⟩) (Cert.Proof.KernelIdealRun.run (F := Ideal) m ρ)

/-- The reference over the extended reals ends from every memory, its three arguments unchanged; it declares no
    semaphore. -/
theorem frame_ri : Cert.quiescent_ReferenceIdeal := fun m ρ _ =>
  (θ_run _ _ _).mono (fun r h => ⟨fun c => (h c).2.2.2, sem_eq_zero_of_no_sems (by decide) r.2⟩)
    (Cert.ReferenceIdeal.Value.run (F := Ideal) m ρ)

end Cert.Proof
-- ==== Proof.Pool.lean ====
/-
  What the streaming loop leaves in the accumulator, over the extended reals: after the sixteen trips, row `b` of the
  accumulator holds, in each column, the sum of the 8192 rows of `x` that belong to batch `b`.
-/
module

public import proofs.«01_k».proof.Defs
public import proofs.«01_k».proof.Proof.RunIdeal
public import Idealize.ShloMosaic.Lib.Pointwise
public import Idealize.ShloMosaic.Lib.Pipeline.Value
public import Idealize.ShloMosaic.Lib.VecWindow

@[expose] public section

set_option maxRecDepth 16384

noncomputable section

namespace Cert.Proof.Value

open Cert.KernelIdeal Cert.KernelIdeal.Gen
open Idealize.ShloMosaic Idealize.ShloMosaic.TcCoe
open Cert.Proof.KernelIdealRun

/-- The column sums of one loaded block of 256 rows. -/
def colSum (v : Vec Ideal S1x256x2048 .f32) (h : Fin 2048) : EReal := ∑ r : Fin 256, v (ix3 0 r h)

/-- Adding a block's column sums to the accumulator row whose number is the word `w` changes that row alone. -/
theorem add_block (acc : FVec Ideal S4x2048 .f32) (v : Vec Ideal S1x256x2048 .f32) (w : BitVec 32) (q : ℕ) (hq : q < 4)
    (hw : w = BitVec.ofNat 32 q) (b : Fin 4) (h : Fin 2048) :
    addf acc (select (broadcastTo S4x2048 (shapeCast S4x1 (cmpi .eq rows (broadcast S4x1 w)) shapeCasts_S4x1_S4x1) broadcasts_S4x1_S4x2048)
        (broadcastTo S4x2048 (shapeCast S1x2048 (shapeCast S1x2048 (multiReduction .add [0] S2048
          (shapeCast S256x2048 v shapeCasts_S1x256x2048_S256x2048) 0x00000000#32 reduces_S256x2048_S2048 (.inl rfl) rfl)
          shapeCasts_S2048_S1x2048) shapeCasts_S1x2048_S1x2048) broadcasts_S1x2048_S4x2048)
        (broadcast S4x2048 (Scalar.ofBits .f32 0x00000000#32))) (ix2 b h)
      = acc (ix2 b h) + if b.val = q then colSum v h else 0 := by
  subst hw
  pointwise [rows, colSum]
  rw [WordCmp.cmpi_eq_ofNat (by omega) (by omega)]
  by_cases e : b.val = q
  · simp [e, Scalar.select]
  · simp [e, Scalar.select]

/-- What a landed slot is read as: the block's rows of `x`. -/
theorem ld_apply (c : Dev nD) (X : Buf (Elt Ideal) (xM.view.loc (c : Thread nD τ))) (k : Fin 16) (s : Fin 8) (r : Fin 256) (h : Fin 2048) :
    ld c X k s (ix3 0 r h) = X (ix2 (⟨2048 * k.val + 256 * s.val + r.val, by omega⟩ : Fin 32768) h) := by
  have e0 : (rslot s).view.read (Elt Ideal) ((rslot s).view.writes (Elt Ideal) (rslot s).view.junk [⟨Rect.whole S256x2048, payload c X k s⟩])
      = shapeCast S256x2048 (ld c X k s) shapeCasts_S1x256x2048_S256x2048 :=
    Memref.read_squeeze_slice bufM (Rect.unit (s := S8x256x2048) (slotOff s) S1x256x2048.size (slotOff_inb s)) (fun _ => rfl)
      squeezes_S1x256x2048_S256x2048 shapeCasts_S1x256x2048_S256x2048 _
  have e := View.read_writes_cons_hit (rslot s).view (rslot s).view.junk (Rect.whole S256x2048) (payload c X k s) [] (ix2 r h) (ix2 r h)
    (Rect.emb_whole_apply _ _)
  rw [e0] at e
  pointwise at e
  refine e.trans ?_
  show X _ = X _
  refine congrArg X (funext fun a => Fin.ext ?_)
  fin_cases a
  · show 2048 * k.val + 256 * s.val + 1 * r.val = _
    simp
  · show 0 + 1 * h.val = _
    simp

/-- The first block of trip `k` is added to the accumulator row `k / 4`, the number the kernel's floor division yields, and to no other. -/
theorem pay3_apply (k : Fin 16) (acc : FVec Ideal S4x2048 .f32) (v : Vec Ideal S1x256x2048 .f32) (b : Fin 4) (h : Fin 2048) :
    k0_pay3 rows 0#32 1#32 (k.cast trips_eq.symm) acc v (ix2 b h) = acc (ix2 b h) + if b.val = k.val / 4 then colSum v h else 0 := by
  unfold k0_pay3
  exact add_block acc v _ _ (by omega) (by revert k; decide) b h

/-- One trip of the loop adds, to the accumulator row of the trip's batch, the column sums of its eight blocks. -/
theorem step_apply (k : Fin 16) (acc : FVec Ideal S4x2048 .f32) (L : Fin 8 → Vec Ideal S1x256x2048 .f32) (b : Fin 4) (h : Fin 2048) :
    stepAcc rows (k.cast trips_eq.symm) acc L (ix2 b h)
      = acc (ix2 b h) + if b.val = k.val / 4 then ∑ s, colSum (L s) h else 0 := by
  have hq : k.val / 4 < 4 := by omega
  unfold stepAcc
  unfold k0_pay16 k0_pay15 k0_pay14 k0_pay13 k0_pay12 k0_pay11 k0_pay10 k0_pay9 k0_pay8 k0_pay7 k0_pay6 k0_pay5 k0_pay4
  refine (add_block _ (L 7) _ (k.val / 4) hq (by revert k; decide) b h).trans ?_
  refine (congrArg (· + _) (add_block _ (L 6) _ (k.val / 4) hq (by revert k; decide) b h)).trans ?_
  refine (congrArg (· + _) (congrArg (· + _) (add_block _ (L 5) _ (k.val / 4) hq (by revert k; decide) b h))).trans ?_
  refine (congrArg (· + _) (congrArg (· + _) (congrArg (· + _) (add_block _ (L 4) _ (k.val / 4) hq (by revert k; decide) b h)))).trans ?_
  refine (congrArg (· + _) (congrArg (· + _) (congrArg (· + _) (congrArg (· + _) (add_block _ (L 3) _ (k.val / 4) hq (by revert k; decide) b h))))).trans ?_
  refine (congrArg (· + _) (congrArg (· + _) (congrArg (· + _) (congrArg (· + _) (congrArg (· + _) (add_block _ (L 2) _ (k.val / 4) hq (by revert k; decide) b h)))))).trans ?_
  refine (congrArg (· + _) (congrArg (· + _) (congrArg (· + _) (congrArg (· + _) (congrArg (· + _) (congrArg (· + _) (add_block _ (L 1) _ (k.val / 4) hq (by revert k; decide) b h))))))).trans ?_
  refine (congrArg (· + _) (congrArg (· + _) (congrArg (· + _) (congrArg (· + _) (congrArg (· + _) (congrArg (· + _) (congrArg (· + _) (pay3_apply k acc (L 0) b h)))))))).trans ?_
  rw [Fin.sum_univ_eight]
  split <;> simp [add_assoc]

/-- A sum over a range cut into `m` runs of length `n`. -/
theorem sum_runs (f : ℕ → EReal) (m n : ℕ) : ∑ i ∈ Finset.range (m * n), f i = ∑ a ∈ Finset.range m, ∑ b ∈ Finset.range n, f (n * a + b) := by
  induction m with
  | zero => simp
  | succ m ih => rw [Nat.succ_mul, Finset.sum_range_add, ih, Finset.sum_range_succ, Nat.mul_comm m n]

/-- Row `i` of the streamed array at column `h`, read at a natural number; 0 past the end. -/
def rowAt (X : FVec Ideal S32768x2048 .f32) (h : Fin 2048) (i : ℕ) : EReal := if hi : i < 32768 then X (ix2 ⟨i, hi⟩ h) else 0

/-- The eight blocks of trip `k` are 2048 consecutive rows. -/
theorem trip_sum (c : Dev nD) (X : FVec Ideal S32768x2048 .f32) (k : Fin 16) (h : Fin 2048) :
    ∑ s, colSum (ld c X k s) h = ∑ i ∈ Finset.range 2048, rowAt X h (2048 * k.val + i) := by
  have e : ∀ s : Fin 8, colSum (ld c X k s) h = ∑ b ∈ Finset.range 256, rowAt X h (2048 * k.val + (256 * s.val + b)) := by
    intro s
    unfold colSum
    rw [Finset.sum_range]
    refine Finset.sum_congr rfl fun r _ => ?_
    rw [ld_apply]
    unfold rowAt
    have hi : 2048 * k.val + (256 * s.val + r.val) < 32768 := by omega
    rw [dif_pos hi]
    rw [← Nat.add_assoc] at hi
    simp only [← Nat.add_assoc]
  rw [Finset.sum_congr rfl fun s _ => e s, show 2048 = 8 * 256 from rfl, sum_runs (fun i => rowAt X h (8 * 256 * k.val + i)), Finset.sum_range]

/-- The accumulator after `n` trips. -/
theorem acc_apply (c : Dev nD) (X : FVec Ideal S32768x2048 .f32) (n : ℕ) (hn : n ≤ 16) (b : Fin 4) (h : Fin 2048) :
    accAt (F := Ideal) c X rows n (ix2 b h)
      = ∑ k ∈ Finset.range n, if b.val = k / 4 then ∑ i ∈ Finset.range 2048, rowAt X h (2048 * k + i) else 0 := by
  induction n with
  | zero => simp only [accAt]; unfold k0_pay17; pointwise; simp
  | succ n ih =>
    have hk : n < k0_t1_loop.trips := by rw [trips_eq]; omega
    rw [accAt, dif_pos hk, Finset.sum_range_succ, ← ih (by omega)]
    rw [← trip_sum c X ⟨n, by omega⟩ h]
    exact step_apply ⟨n, by omega⟩ _ _ b h

/-- The accumulator after the last trip: each batch's 8192 rows summed. -/
theorem acc_end (c : Dev nD) (X : FVec Ideal S32768x2048 .f32) (b : Fin 4) (h : Fin 2048) :
    accAt (F := Ideal) c X rows 16 (ix2 b h) = ∑ i ∈ Finset.range 8192, rowAt X h (8192 * b.val + i) := by
  rw [acc_apply c X 16 le_rfl, show 16 = 4 * 4 from rfl, sum_runs (fun k => if b.val = k / 4 then _ else 0) 4 4,
    Finset.sum_eq_single b.val]
  · rw [show 8192 = 4 * 2048 from rfl, sum_runs (fun i => rowAt X h (4 * 2048 * b.val + i)) 4 2048]
    refine Finset.sum_congr rfl fun a ha => ?_
    have := Finset.mem_range.1 ha
    rw [if_pos (by omega)]
    refine Finset.sum_congr rfl fun i _ => ?_
    congr 1; ring
  · intro q _ hq
    refine Finset.sum_eq_zero fun a ha => ?_
    have := Finset.mem_range.1 ha
    rw [if_neg (by omega)]
  · intro hb
    exact absurd (Finset.mem_range.2 b.isLt) hb

/-- The accumulator after the last trip, when the streamed array is `x` with its first two axes joined. -/
theorem acc_of_x (c : Dev nD) (x : FVec Ideal S4x8192x2048 .f32) (b : Fin 4) (h : Fin 2048) :
    accAt (F := Ideal) c (shapeCast S32768x2048 x shapeCasts_S4x8192x2048_S32768x2048) rows 16 (ix2 b h) = ∑ t : Fin 8192, x (ix3 b t h) := by
  rw [acc_end, Finset.sum_range]
  refine Finset.sum_congr rfl fun t _ => ?_
  unfold rowAt
  rw [dif_pos (by omega)]
  pointwise

/-- The region finds the streamed array as the launch's `x` with its first two axes joined. -/
theorem V_x (m : (ℓ : Loc nD τ sig) → Buf (Elt Ideal) ℓ) (c : Dev nD) :
    Gen.V m c main_v0 = shapeCast S32768x2048 (m ((c : Thread nD τ).loc main_arg0)) shapeCasts_S4x8192x2048_S32768x2048 := by
  simp only [Gen.V, hostOps0]
  after_results
  rfl

/-- The region finds the gates as the launch's, laid out as a row. -/
theorem V_gates (m : (ℓ : Loc nD τ sig) → Buf (Elt Ideal) ℓ) (c : Dev nD) :
    Gen.V m c main_v1 = shapeCast S1x16 (m ((c : Thread nD τ).loc main_arg2)) shapeCasts_S16_S1x16 := by
  simp only [Gen.V, hostOps0]
  after_results
  rfl

end Cert.Proof.Value
-- ==== Proof.Logits.lean ====
/-
  The gate's logits over the extended reals: the closed forms that both programs compute, and the kernel's values read as them.
-/
module

public import proofs.«01_k».proof.Defs
public import proofs.«01_k».proof.Proof.Pool

@[expose] public section

set_option maxRecDepth 16384

noncomputable section

namespace Cert.Proof.Value

open Idealize.ShloMosaic Idealize.ShloMosaic.TcCoe

/-- The floor under a norm: the single-precision number nearest `1e-12`. -/
def eps : EReal := Ideal.ofBits .f32 0x2B8CBCCC#32

/-- One entry of a vector divided by the vector's norm, the norm kept off zero by `eps`. -/
def unit {n : ℕ} (v : Fin n → EReal) (i : Fin n) : EReal := Ideal.div (v i) (max (Ideal.sqrt (∑ k, v k * v k)) eps)

/-- The mean over the sequence. -/
def meanE (x : FVec Ideal ⟨3, ![4, 8192, 2048]⟩ .f32) (b : Fin 4) (h : Fin 2048) : EReal :=
  (∑ t : Fin 8192, x (ix3 b t h)) * ((1 / 8192 : ℝ) : EReal)

/-- The logits: the products of the normalised mean with the normalised columns of the similarity matrix. -/
def logitE (x : FVec Ideal ⟨3, ![4, 8192, 2048]⟩ .f32) (s : FVec Ideal ⟨2, ![2048, 16]⟩ .f32) (b : Fin 4) (e : Fin 16) : EReal :=
  ∑ h : Fin 2048, unit (meanE x b) h * unit (fun h => s (ix2 h e)) h

/-- The logits less the gates' thresholds. -/
def preE (x : FVec Ideal ⟨3, ![4, 8192, 2048]⟩ .f32) (s : FVec Ideal ⟨2, ![2048, 16]⟩ .f32) (g : FVec Ideal ⟨1, ![16]⟩ .f32)
    (b : Fin 4) (e : Fin 16) : EReal :=
  logitE x s b e - Ideal.logistic (g (ix1 e))

/-- The word the kernel multiplies by is exactly 1/8192. -/
theorem ofBits_inv8192 : Ideal.ofBits .f32 0x39000000#32 = ((1 / 8192 : ℝ) : EReal) := by
  simp [Ideal.ofBits, Ideal.ieee, -EReal.coe_mul]; norm_num

/-- The word the reference divides by is exactly 8192. -/
theorem ofBits_8192 : Ideal.ofBits .f32 0x46000000#32 = ((8192 : ℝ) : EReal) := by
  simp [Ideal.ofBits, Ideal.ieee, -EReal.coe_mul]; norm_num

section Kernel

open Cert.KernelIdeal Cert.KernelIdeal.Gen Cert.Proof.KernelIdealRun

/-- The kernel's normalised mean, from an accumulator that holds the sums over the sequence. -/
theorem pay18_apply (x : FVec Ideal S4x8192x2048 .f32) (acc : FVec Ideal S4x2048 .f32)
    (hacc : ∀ b h, acc (ix2 b h) = ∑ t : Fin 8192, x (ix3 b t h)) (b : Fin 4) (h : Fin 2048) :
    k0_pay18 acc (ix2 b h) = unit (meanE x b) h := by
  unfold k0_pay18
  pointwise
  simp only [hacc, ofBits_inv8192]
  rfl

/-- The kernel's logits. -/
theorem pay19_apply (x : FVec Ideal S4x8192x2048 .f32) (p : FVec Ideal S4x2048 .f32) (hp : ∀ b h, p (ix2 b h) = unit (meanE x b) h)
    (s : Vec Ideal S2048x16 .f32) (b : Fin 4) (e : Fin 16) : k0_pay19 p s (ix2 b e) = logitE x s b e := by
  unfold k0_pay19
  pointwise
  simp only [hp]
  rfl

/-- The kernel's gated logits. -/
theorem pay20_apply (x : FVec Ideal S4x8192x2048 .f32) (p : FVec Ideal S4x2048 .f32) (hp : ∀ b h, p (ix2 b h) = unit (meanE x b) h)
    (s : Vec Ideal S2048x16 .f32) (g : FVec Ideal S16 .f32) (b : Fin 4) (e : Fin 16) :
    k0_pay20 p s (shapeCast S1x16 g shapeCasts_S16_S1x16) (ix2 b e) = preE x s g b e := by
  unfold k0_pay20
  pointwise
  rw [pay19_apply x p hp]
  rfl

/-- The kernel's normalised mean, after its streaming loop. -/
theorem pooledN_apply (m : (ℓ : Loc nD τ sig) → Buf (Elt Ideal) ℓ) (c : Dev nD) (b : Fin 4) (h : Fin 2048) :
    pooledN (F := Ideal) m c (ix2 b h) = unit (meanE (m ((c : Thread nD τ).loc main_arg0)) b) h := by
  unfold pooledN
  refine pay18_apply _ _ (fun b h => ?_) b h
  have e : XA m c = shapeCast S32768x2048 (m ((c : Thread nD τ).loc main_arg0)) shapeCasts_S4x8192x2048_S32768x2048 := V_x m c
  rw [e]
  exact acc_of_x c _ b h

end Kernel

end Cert.Proof.Value
-- ==== Proof.Rank.lean ====
/-
  A stable sort by descending value puts the entry `e` at the place that counts the entries ahead of it: those greater, and
  those equal that stand earlier. So its first `k` places hold exactly the entries with fewer than `k` ahead of them.
-/
module

public import Idealize.ShloMosaic.Lib.SortFacts
public import Idealize.ShloMosaic.Lib.PlanTiles.StableSort
public import Mathlib.Order.Interval.Finset.Fin

@[expose] public section

noncomputable section

namespace Cert.Proof.Value

open Idealize.ShloMosaic Idealize.ShloMosaic.PlanTiles

variable {α : Type} [LinearOrder α] {n : ℕ} (L : Fin n → α)

/-- Entry `j` is ahead of entry `e`: it is greater, or equal and earlier. -/
def Ahead (j e : Fin n) : Prop := L e < L j ∨ (L j = L e ∧ j < e)

instance (j e : Fin n) : Decidable (Ahead L j e) := by unfold Ahead; infer_instance

/-- How many entries are ahead of `e`. -/
def rank (e : Fin n) : ℕ := (Finset.univ.filter fun j => Ahead L j e).card

/-- The comparison a sort by descending value asks. -/
def desc (a b : Fin n) : Bool := decide (L b < L a)

/-- How many entries are less than `a`: a natural number ordered as the entries are. -/
def below (a : Fin n) : ℕ := (Finset.univ.filter fun j => L j < L a).card

/-- `below` orders the positions as their entries are ordered. -/
theorem below_lt (a b : Fin n) : below L a < below L b ↔ L a < L b := by
  constructor
  · intro h
    by_contra hn
    refine absurd h (not_lt.2 (Finset.card_le_card fun j hj => ?_))
    simp only [Finset.mem_filter, Finset.mem_univ, true_and] at hj ⊢
    exact lt_of_lt_of_le hj (not_lt.1 hn)
  · intro h
    refine Finset.card_lt_card ⟨fun j hj => ?_, fun hs => ?_⟩
    · simp only [Finset.mem_filter, Finset.mem_univ, true_and] at hj ⊢
      exact hj.trans h
    · have := hs (by simpa using h : a ∈ Finset.univ.filter fun j => L j < L b)
      simp at this

/-- A stable sort leaves every entry after those ahead of it. -/
theorem sorted_ahead : (sortPositions n (desc L)).Pairwise (Ahead L) := by
  have hd : desc L = fun x y => decide (below L y < below L x) := by
    funext x y; unfold desc; exact decide_eq_decide.2 (below_lt L y x).symm
  unfold sortPositions
  rw [hd]
  refine (pairwise_stableSort_lex (below L) (· < ·) (List.finRange n) (List.pairwise_lt_finRange n)).imp fun {a b} h => ?_
  rcases h with h | ⟨h, h'⟩
  · exact Or.inl ((below_lt L b a).1 h)
  · refine Or.inr ⟨le_antisymm (not_lt.1 fun hl => ?_) (not_lt.1 fun hl => ?_), h'⟩
    · exact absurd ((below_lt L b a).2 hl) (by omega)
    · exact absurd ((below_lt L a b).2 hl) (by omega)

/-- The entry at an earlier place is ahead of the entry at a later one. -/
theorem sortedFrom_ahead {i j : Fin n} (h : i < j) : Ahead L (sortedFrom (desc L) i) (sortedFrom (desc L) j) :=
  List.pairwise_iff_get.1 (sorted_ahead L) _ _ (by simpa using h)

/-- Of two entries at most one is ahead of the other. -/
theorem ahead_asymm {i j : Fin n} (h : Ahead L i j) : ¬ Ahead L j i := by
  rintro (h' | ⟨h', h''⟩) <;> rcases h with h | ⟨h, h3⟩
  · exact lt_asymm h h'
  · exact absurd h' (by rw [h]; exact lt_irrefl _)
  · exact absurd h (by rw [h']; exact lt_irrefl _)
  · exact lt_asymm h3 h''

/-- The place of an entry is its rank. -/
theorem rank_sortedFrom (i : Fin n) : rank L (sortedFrom (desc L) i) = i.val := by
  have hb : Function.Bijective (sortedFrom (desc L)) := ⟨sortedFrom_injective _, sortedFrom_surjective _⟩
  have hm : (Finset.univ.filter fun j => Ahead L j (sortedFrom (desc L) i)) = (Finset.univ.filter (· < i)).map ⟨_, hb.1⟩ := by
    ext j
    obtain ⟨k, rfl⟩ := hb.2 j
    simp only [Finset.mem_filter, Finset.mem_univ, true_and, Finset.mem_map, Function.Embedding.coeFn_mk]
    constructor
    · intro h
      refine ⟨k, ?_, rfl⟩
      rcases lt_trichotomy k i with hk | rfl | hk
      · exact hk
      · exact absurd h (ahead_asymm L h)
      · exact absurd h (ahead_asymm L (sortedFrom_ahead L hk))
    · rintro ⟨k', hk', e⟩
      rw [← hb.1 e]
      exact sortedFrom_ahead L hk'
  unfold rank
  rw [hm, Finset.card_map, ← Fin.card_Iio i]
  congr 1
  ext j
  simp

/-- Among the first `k` places one holds `e`, if fewer than `k` entries are ahead of it, and none otherwise. -/
theorem sum_top {M : Type} [AddCommMonoid M] (k : ℕ) (hk : k ≤ n) (v : M) (e : Fin n) :
    (∑ r : Fin k, if sortedFrom (desc L) (r.castLE hk) = e then v else 0) = if rank L e < k then v else 0 := by
  obtain ⟨i, rfl⟩ := sortedFrom_surjective (desc L) e
  rw [rank_sortedFrom]
  have he : ∀ r : Fin k, (sortedFrom (desc L) (r.castLE hk) = sortedFrom (desc L) i) ↔ r.val = i.val := fun r =>
    (sortedFrom_injective (desc L)).eq_iff.trans Fin.ext_iff
  simp only [he]
  split
  · next h =>
    rw [Finset.sum_eq_single (⟨i.val, h⟩ : Fin k)]
    · simp
    · intro b _ hb
      exact if_neg fun hh => hb (Fin.ext hh)
    · simp
  · next h =>
    exact Finset.sum_eq_zero fun r _ => if_neg fun hh => h (by rw [← hh]; exact r.isLt)

end Cert.Proof.Value
-- ==== Proof.Gate.lean ====
/-
  The gate's mask and softmax over the extended reals, as functions of one row's logits and gated logits.
-/
module

public import proofs.«01_k».proof.Defs
public import proofs.«01_k».proof.Proof.Rank

@[expose] public section

noncomputable section

namespace Cert.Proof.Value

open Idealize.ShloMosaic

/-- The mask of a row with logits `L` and gated logits `P`: one where the gated logit is positive; in a row with none positive,
    one at the eight greatest logits. -/
def maskE (L P : Fin 16 → EReal) (e : Fin 16) : EReal :=
  if ∀ e', P e' ≤ 0 then (if rank L e < 8 then 1 else 0) else (if 0 < P e then 1 else 0)

/-- The gated logits cut off below zero where the mask `k` is set, the least finite number elsewhere. -/
def keptE (P k : Fin 16 → EReal) (e : Fin 16) : EReal := if 0 < k e then max (P e) 0 else Ideal.ofBits .f32 0xFF7FFFFF#32

/-- The softmax of a row. -/
def softE (v : Fin 16 → EReal) (e : Fin 16) : EReal :=
  Ideal.div (Ideal.exp (v e - Finset.univ.fold max ⊥ v)) (∑ k, Ideal.exp (v k - Finset.univ.fold max ⊥ v))

/-- The word of minus infinity is the least extended real. -/
theorem ofBits_negInf : Ideal.ofBits .f32 0xFF800000#32 = ⊥ := by simp [Ideal.ofBits, Ideal.ieee]

/-- A row's greatest entry is not positive exactly if none is. -/
theorem fold_max_le_zero (P : Fin 16 → EReal) : Finset.univ.fold max ⊥ P ≤ 0 ↔ ∀ e, P e ≤ 0 := by
  rw [Finset.fold_max_le]
  simp

end Cert.Proof.Value
-- ==== Proof.KernelMask.lean ====
/-
  The kernel's count of the logits ahead of each one, its mask and its softmax, read over the extended reals.
-/
module

public import proofs.«01_k».proof.Defs
public import proofs.«01_k».proof.Proof.Logits
public import proofs.«01_k».proof.Proof.Gate

@[expose] public section

set_option maxRecDepth 16384

noncomputable section

namespace Cert.Proof.Value

open Cert.KernelIdeal Cert.KernelIdeal.Gen
open Idealize.ShloMosaic Idealize.ShloMosaic.TcCoe
open Cert.Proof.KernelIdealRun

/-- One step of the kernel's count: it adds one where column `j`'s entry is ahead of the entry counted for. -/
theorem add_ahead (v : FVec Ideal S4x16 .f32) (acc : FVec Ideal S4x16 .f32) (j : Fin 16) (hs : S4x16.Slices ![0, j.val] S4x1) (w : BitVec 32)
    (hw : w = BitVec.ofNat 32 j.val) (b : Fin 4) (e : Fin 16) :
    addf acc (select (ori (cmpf .ogt (broadcastTo S4x16 (extractStridedSlice S4x1 ![0, j.val] v hs) broadcasts_S4x1_S4x16) v)
        (andi (cmpf .oeq (broadcastTo S4x16 (extractStridedSlice S4x1 ![0, j.val] v hs) broadcasts_S4x1_S4x16) v)
          (cmpi .sgt (iota .tc S4x16 32 [1] iota_S4x16_d1_w32) (broadcast S4x16 w))))
        (broadcast S4x16 (Scalar.ofBits .f32 0x3F800000#32)) (broadcast S4x16 (Scalar.ofBits .f32 0x00000000#32))) (ix2 b e)
      = acc (ix2 b e) + if Ahead (fun e => v (ix2 b e)) j e then 1 else 0 := by
  subst hw
  pointwise
  rw [WordCmp.cmpi_sgt_ofNat (by omega) (by omega)]
  unfold Ahead
  congr 1
  by_cases h1 : v (ix2 b e) < v (ix2 b j) <;> by_cases h2 : v (ix2 b j) = v (ix2 b e) <;> by_cases h3 : j < e <;>
    simp [h1, h2, h3, Scalar.select, IntOp.ori, IntOp.andi]

/-- A count of ones, compared with eight. -/
theorem count_lt (n : ℕ) : (((n : ℕ) : EReal) < Ideal.ofBits .f32 0x41000000#32) ↔ n < 8 := by
  have h8 : Ideal.ofBits .f32 0x41000000#32 = ((8 : ℕ) : EReal) := by
    simp [Ideal.ofBits, Ideal.ieee, -EReal.coe_mul]; norm_num; rfl
  rw [h8]
  exact_mod_cast Iff.rfl

/-- The sum of the sixteen indicators is the count. -/
theorem sum_ahead (L : Fin 16 → EReal) (e : Fin 16) : (∑ j, if Ahead L j e then (1 : EReal) else 0) = ((rank L e : ℕ) : EReal) := by
  rw [Finset.sum_boole]
  rfl

/-- The kernel's selection: an entry is selected if fewer than eight are ahead of it. -/
theorem count_apply (v : FVec Ideal S4x16 .f32) (acc : FVec Ideal S4x16 .f32) (b : Fin 4) (e : Fin 16)
    (hacc : acc (ix2 b e) = ∑ j, if Ahead (fun e => v (ix2 b e)) j e then (1 : EReal) else 0) :
    cmpf .olt acc (broadcast S4x16 (Scalar.ofBits .f32 0x41000000#32)) (ix2 b e)
      = BitVec.ofBool (decide (rank (fun e => v (ix2 b e)) e < 8)) := by
  pointwise
  rw [hacc, sum_ahead]
  exact congrArg BitVec.ofBool (decide_eq_decide.2 (count_lt _))

/-- Sixteen terms added one by one. -/
theorem sum_sixteen (f : Fin 16 → EReal) (z : EReal) (hz : z = 0) :
    ((((((((((((((((z + f 0) + f 1) + f 2) + f 3) + f 4) + f 5) + f 6) + f 7) + f 8) + f 9) + f 10) + f 11) + f 12) + f 13) + f 14) + f 15)
      = ∑ j, f j := by
  simp only [Fin.sum_univ_castSucc, Finset.univ_eq_empty, Finset.sum_empty, hz]
  rfl

/-- The kernel's count of the logits ahead, compared with eight. -/
theorem rankMask_apply (p : FVec Ideal S4x2048 .f32) (s : Vec Ideal S2048x16 .f32) (b : Fin 4) (e : Fin 16) :
    rankMask p s (ix2 b e) = BitVec.ofBool (decide (rank (fun e => k0_pay19 p s (ix2 b e)) e < 8)) := by
  unfold rankMask k0_pay36 k0_pay35 k0_pay34 k0_pay33 k0_pay32 k0_pay31 k0_pay30 k0_pay29 k0_pay28 k0_pay27 k0_pay26 k0_pay25 k0_pay24
  refine count_apply (k0_pay19 p s) _ b e ?_
  generalize k0_pay19 p s = v
  refine (add_ahead v _ 15 _ _ rfl b e).trans ?_
  refine (congrArg (· + _) (add_ahead v _ 14 _ _ rfl b e)).trans ?_
  refine (congrArg (· + _) (congrArg (· + _) (add_ahead v _ 13 _ _ rfl b e))).trans ?_
  refine (congrArg (· + _) (congrArg (· + _) (congrArg (· + _) (add_ahead v _ 12 _ _ rfl b e)))).trans ?_
  refine (congrArg (· + _) (congrArg (· + _) (congrArg (· + _) (congrArg (· + _) (add_ahead v _ 11 _ _ rfl b e))))).trans ?_
  refine (congrArg (· + _) (congrArg (· + _) (congrArg (· + _) (congrArg (· + _) (congrArg (· + _) (add_ahead v _ 10 _ _ rfl b e)))))).trans ?_
  refine (congrArg (· + _) (congrArg (· + _) (congrArg (· + _) (congrArg (· + _) (congrArg (· + _) (congrArg (· + _) (add_ahead v _ 9 _ _ rfl b e))))))).trans ?_
  refine (congrArg (· + _) (congrArg (· + _) (congrArg (· + _) (congrArg (· + _) (congrArg (· + _) (congrArg (· + _) (congrArg (· + _) (add_ahead v _ 8 _ _ rfl b e)))))))).trans ?_
  refine (congrArg (· + _) (congrArg (· + _) (congrArg (· + _) (congrArg (· + _) (congrArg (· + _) (congrArg (· + _) (congrArg (· + _) (congrArg (· + _) (add_ahead v _ 7 _ _ rfl b e))))))))).trans ?_
  refine (congrArg (· + _) (congrArg (· + _) (congrArg (· + _) (congrArg (· + _) (congrArg (· + _) (congrArg (· + _) (congrArg (· + _) (congrArg (· + _) (congrArg (· + _) (add_ahead v _ 6 _ _ rfl b e)))))))))).trans ?_
  refine (congrArg (· + _) (congrArg (· + _) (congrArg (· + _) (congrArg (· + _) (congrArg (· + _) (congrArg (· + _) (congrArg (· + _) (congrArg (· + _) (congrArg (· + _) (congrArg (· + _) (add_ahead v _ 5 _ _ rfl b e))))))))))).trans ?_
  refine (congrArg (· + _) (congrArg (· + _) (congrArg (· + _) (congrArg (· + _) (congrArg (· + _) (congrArg (· + _) (congrArg (· + _) (congrArg (· + _) (congrArg (· + _) (congrArg (· + _) (congrArg (· + _) (add_ahead v _ 4 _ _ rfl b e)))))))))))).trans ?_
  refine (congrArg (· + _) (congrArg (· + _) (congrArg (· + _) (congrArg (· + _) (congrArg (· + _) (congrArg (· + _) (congrArg (· + _) (congrArg (· + _) (congrArg (· + _) (congrArg (· + _) (congrArg (· + _) (congrArg (· + _) (add_ahead v _ 3 _ _ rfl b e))))))))))))).trans ?_
  refine (congrArg (· + _) (congrArg (· + _) (congrArg (· + _) (congrArg (· + _) (congrArg (· + _) (congrArg (· + _) (congrArg (· + _) (congrArg (· + _) (congrArg (· + _) (congrArg (· + _) (congrArg (· + _) (congrArg (· + _) (congrArg (· + _) (add_ahead v _ 2 _ _ rfl b e)))))))))))))).trans ?_
  refine (congrArg (· + _) (congrArg (· + _) (congrArg (· + _) (congrArg (· + _) (congrArg (· + _) (congrArg (· + _) (congrArg (· + _) (congrArg (· + _) (congrArg (· + _) (congrArg (· + _) (congrArg (· + _) (congrArg (· + _) (congrArg (· + _) (congrArg (· + _) (add_ahead v _ 1 _ _ rfl b e))))))))))))))).trans ?_
  refine (congrArg (· + _) (congrArg (· + _) (congrArg (· + _) (congrArg (· + _) (congrArg (· + _) (congrArg (· + _) (congrArg (· + _) (congrArg (· + _) (congrArg (· + _) (congrArg (· + _) (congrArg (· + _) (congrArg (· + _) (congrArg (· + _) (congrArg (· + _) (congrArg (· + _) (add_ahead v _ 0 _ _ rfl b e)))))))))))))))).trans ?_
  exact sum_sixteen (fun j => if Ahead (fun e => v (ix2 b e)) j e then (1 : EReal) else 0) _ (by pointwise)

/-- The kernel's mask. -/
theorem outMask_apply (p : FVec Ideal S4x2048 .f32) (s : Vec Ideal S2048x16 .f32) (g : Vec Ideal S1x16 .f32) (b : Fin 4) (e : Fin 16) :
    outMask p s g (ix2 b e) = maskE (fun e => k0_pay19 p s (ix2 b e)) (fun e => k0_pay20 p s g (ix2 b e)) e := by
  have hr := rankMask_apply p s b e
  unfold outMask k0_pay1 k0_pay22 k0_pay23 maskE
  generalize k0_pay20 p s g = v
  generalize rankMask p s = q at hr
  pointwise
  rw [hr, ofBits_negInf]
  simp only [fold_max_le_zero]
  congr 1
  by_cases h : rank (fun e => k0_pay19 p s (ix2 b e)) e < 8 <;> simp [h, Scalar.select]

/-- The kernel's softmax. -/
theorem outSoft_apply (p : FVec Ideal S4x2048 .f32) (s : Vec Ideal S2048x16 .f32) (g : Vec Ideal S1x16 .f32) (b : Fin 4) (e : Fin 16) :
    outSoft p s g (ix2 b e) = softE (keptE (fun e => k0_pay20 p s g (ix2 b e)) (fun e => outMask p s g (ix2 b e))) e := by
  unfold outSoft k0_pay2 k0_pay21
  change _ = softE (keptE _ (fun e => k0_pay1 (k0_pay22 p s g) (k0_pay23 p s g) (rankMask p s) (Scalar.ofBits .f32 0x3F800000#32) (ix2 b e))) e
  generalize k0_pay1 (k0_pay22 p s g) (k0_pay23 p s g) (rankMask p s) (Scalar.ofBits .f32 0x3F800000#32) = k
  generalize k0_pay20 p s g = v
  unfold softE keptE
  pointwise
  simp only [ofBits_negInf]

end Cert.Proof.Value
-- ==== Proof.RefTerms.lean ====
/-
  The reference's results, cut at the values it names: the logits, the gated logits, the mask and the softmax.
-/
module

public import proofs.«01_k».proof.Defs
public import proofs.«01_k».proof.Proof.Gen.ReferenceIdeal.Run

@[expose] public section

set_option maxRecDepth 16384

noncomputable section

namespace Cert.Proof.Value

open Cert.ReferenceIdeal Cert.ReferenceIdeal.Gen Idealize.ShloMosaic Idealize.ShloMosaic.TcCoe

variable {F : FTy → Type} [FloatOps F]

/-- The mean over the sequence. -/
def refMean (x : FVec F S4x8192x2048 .f32) : FVec F S4x2048 .f32 :=
  Host.divf (Host.reduceAdd x (constant S_ .f32 0x00000000#32) reducesTo_S4x8192x2048_S4x2048_d1 h_S_)
    (broadcastInDim S4x2048 ![] bcast_S_S4x2048 (constant S_ .f32 0x46000000#32))
/-- A row of 2048 values over its norm. -/
def refUnitRow (v : FVec F S4x2048 .f32) : FVec F S4x2048 .f32 :=
  Host.divf v (broadcastInDim S4x2048 ![0, 1] bcast_S4x1_S4x2048_0_1
    (maximumf (Host.sqrt (broadcastInDim S4x1 ![0] bcast_S4_S4x1_0
      (Host.reduceAdd (mulf v v) (constant S_ .f32 0x00000000#32) reducesTo_S4x2048_S4_d1 h_S_)))
      (broadcastInDim S4x1 ![] bcast_S_S4x1 (constant S_ .f32 0x2B8CBCCC#32))))
/-- A column of 2048 values over its norm. -/
def refUnitCol (s : FVec F S2048x16 .f32) : FVec F S2048x16 .f32 :=
  Host.divf s (broadcastInDim S2048x16 ![0, 1] bcast_S1x16_S2048x16_0_1
    (maximumf (Host.sqrt (broadcastInDim S1x16 ![1] bcast_S16_S1x16_1
      (Host.reduceAdd (mulf s s) (constant S_ .f32 0x00000000#32) reducesTo_S2048x16_S16_d0 h_S_)))
      (broadcastInDim S1x16 ![] bcast_S_S1x16 (constant S_ .f32 0x2B8CBCCC#32))))
/-- The logits. -/
def refLogits (x : FVec F S4x8192x2048 .f32) (s : FVec F S2048x16 .f32) : FVec F S4x16 .f32 :=
  Host.dotGeneral dot_S4x2048_S2048x16_S4x16_1_0_0_1_n_n none (refUnitRow (refMean x)) (refUnitCol s)
/-- The logits less the gates' thresholds. -/
def refPre (l : FVec F S4x16 .f32) (g : FVec F S16 .f32) : FVec F S4x16 .f32 :=
  subf l (broadcastInDim S4x16 ![0, 1] bcast_S1x16_S4x16_0_1 (broadcastInDim S1x16 ![1] bcast_S16_S1x16_1
    (Host.divf (broadcastInDim S16 ![] bcast_S_S16 (constant S_ .f32 0x3F800000#32))
      (addf (broadcastInDim S16 ![] bcast_S_S16 (constant S_ .f32 0x3F800000#32)) (Host.exp (Host.negf g))))))
/-- The gated logits cut off below zero. -/
def refGated (p : FVec F S4x16 .f32) : FVec F S4x16 .f32 :=
  maximumf p (broadcastInDim S4x16 ![] bcast_S_S4x16 (constant S_ .f32 0x00000000#32))
/-- The indicator of a positive gated logit, added in its straight-through form. -/
def refActive (v : FVec F S4x16 .f32) : FVec F S4x16 .f32 :=
  addf v (subf (uitofp .f32 (cmpf .ogt v (broadcastInDim S4x16 ![] bcast_S_S4x16 (constant S_ .f32 0x00000000#32)))) v)
/-- The fallback: the indicator of a row's eight greatest logits. -/
def refTop (l : FVec F S4x16 .f32) : FVec F S4x16 .f32 :=
  minimumf (Host.reduceAdd (uitofp .f32 (cmpi .eq
      (broadcastInDim S4x8x16 ![0, 1, 2] bcast_S4x8x1_S4x8x16_0_1_2 (broadcastInDim S4x8x1 ![0, 1] bcast_S4x8_S4x8x1_0_1
        (Host.topK S4x8 1 (FloatOps.cmpfTotal .gt) l sliceFits_S4x16_S4x8).2))
      (broadcastInDim S4x8x16 ![0, 1, 2] bcast_S1x1x16_S4x8x16_0_1_2 (iotaInDim S1x1x16 32 2))))
    (constant S_ .f32 0x00000000#32) reducesTo_S4x8x16_S4x16_d1 h_S_)
    (broadcastInDim S4x16 ![] bcast_S_S4x16 (constant S_ .f32 0x3F800000#32))
/-- The mask: the indicator, or in a row with nothing active the fallback. -/
def refMask (l p : FVec F S4x16 .f32) : FVec F S4x16 .f32 :=
  select (broadcastInDim S4x16 ![0, 1] bcast_S4x1_S4x16_0_1 (broadcastInDim S4x1 ![0] bcast_S4_S4x1_0
      (cmpf .oeq (Host.reduceAdd (refActive (refGated p)) (constant S_ .f32 0x00000000#32) reducesTo_S4x16_S4_d1 h_S_)
        (broadcastInDim S4 ![] bcast_S_S4 (constant S_ .f32 0x00000000#32)))))
    (refTop l) (refActive (refGated p))
/-- The gated logits where the mask `k` is set, the least finite number elsewhere. -/
def refKept (p k : FVec F S4x16 .f32) : FVec F S4x16 .f32 :=
  select (cmpf .ogt k (broadcastInDim S4x16 ![] bcast_S_S4x16 (constant S_ .f32 0x00000000#32))) (refGated p)
    (broadcastInDim S4x16 ![] bcast_S_S4x16 (constant S_ .f32 0xFF7FFFFF#32))
/-- The exponentials of a row less its greatest entry. -/
def refExp (v : FVec F S4x16 .f32) : FVec F S4x16 .f32 :=
  Host.exp (subf v (broadcastInDim S4x16 ![0, 1] bcast_S4x1_S4x16_0_1 (broadcastInDim S4x1 ![0] bcast_S4_S4x1_0
    (maximumf (broadcastInDim S4 ![] bcast_S_S4 (constant S_ .f32 0xFF800000#32))
      (Host.reduce FloatOps.maximumf v (constant S_ .f32 0xFF800000#32) reducesTo_S4x16_S4_d1 h_S_)))))
/-- The softmax of the rows. -/
def refSoft (v : FVec F S4x16 .f32) : FVec F S4x16 .f32 :=
  Host.divf (refExp v) (broadcastInDim S4x16 ![0, 1] bcast_S4x1_S4x16_0_1 (broadcastInDim S4x1 ![0] bcast_S4_S4x1_0
    (Host.reduceAdd (refExp v) (constant S_ .f32 0x00000000#32) reducesTo_S4x16_S4_d1 h_S_)))

variable (m : (ℓ : Loc nD τ sig) → Buf (Elt F) ℓ) (c : Dev nD)

/-- The launch's logits. -/
def refL : FVec F S4x16 .f32 := refLogits (m ((c.tc : Thread nD τ).loc main_arg0)) (m ((c.tc : Thread nD τ).loc main_arg1))
/-- The launch's gated logits. -/
def refP : FVec F S4x16 .f32 := refPre (refL m c) (m ((c.tc : Thread nD τ).loc main_arg2))

/-- The third result is the mask of the launch's logits. -/
theorem res2_eq : Cert.ReferenceIdeal.Value.res_out2 m c = refMask (refL m c) (refP m c) := rfl
/-- The first result is the softmax of the gated logits that the mask keeps. -/
theorem res0_eq : Cert.ReferenceIdeal.Value.res_out0 m c = refSoft (refKept (refP m c) (refMask (refL m c) (refP m c))) := rfl

end Cert.Proof.Value
-- ==== Proof.RefLogits.lean ====
/-
  The reference's logits and gated logits, read as the closed forms; and that every gated logit is a real number.
-/
module

public import proofs.«01_k».proof.Defs
public import proofs.«01_k».proof.Proof.Logits
public import proofs.«01_k».proof.Proof.RefTerms

@[expose] public section

set_option maxRecDepth 16384

noncomputable section

namespace Cert.Proof.Value

open Cert.ReferenceIdeal Cert.ReferenceIdeal.Gen Idealize.ShloMosaic Idealize.ShloMosaic.TcCoe

/-- The reference's mean over the sequence is the sum times 1/8192. -/
theorem refMean_apply (x : FVec Ideal S4x8192x2048 .f32) (b : Fin 4) (h : Fin 2048) : refMean x (ix2 b h) = meanE x b h := by
  unfold refMean meanE
  pointwise
  rw [ofBits_8192, Ideal.div_coe (by norm_num)]

/-- The reference's normalised row, entry by entry. -/
theorem refUnitRow_apply (v : FVec Ideal S4x2048 .f32) (b : Fin 4) (h : Fin 2048) :
    refUnitRow v (ix2 b h) = unit (fun h => v (ix2 b h)) h := by
  unfold refUnitRow
  pointwise
  rfl

/-- The reference's normalised column, entry by entry. -/
theorem refUnitCol_apply (s : FVec Ideal S2048x16 .f32) (h : Fin 2048) (e : Fin 16) :
    refUnitCol s (ix2 h e) = unit (fun h => s (ix2 h e)) h := by
  unfold refUnitCol
  pointwise
  rfl

/-- The reference's logits. -/
theorem refLogits_apply (x : FVec Ideal S4x8192x2048 .f32) (s : FVec Ideal S2048x16 .f32) (b : Fin 4) (e : Fin 16) :
    refLogits x s (ix2 b e) = logitE x s b e := by
  unfold refLogits
  pointwise
  simp only [refUnitRow_apply, refUnitCol_apply, refMean_apply]
  rfl

/-- The reference's gated logits. -/
theorem refPre_apply (x : FVec Ideal S4x8192x2048 .f32) (s : FVec Ideal S2048x16 .f32) (l : FVec Ideal S4x16 .f32)
    (hl : ∀ b e, l (ix2 b e) = logitE x s b e) (g : FVec Ideal S16 .f32) (b : Fin 4) (e : Fin 16) :
    refPre l g (ix2 b e) = preE x s g b e := by
  unfold refPre
  pointwise
  rw [hl]
  rfl

/-! ## Every gated logit is a real number -/

/-- `v` is a real number. -/
def IsReal (v : EReal) : Prop := ∃ r : ℝ, v = r

/-- The floor under a norm is a positive real number. -/
theorem eps_eq : ∃ r : ℝ, 0 < r ∧ eps = r := by
  refine ⟨_, ?_, by unfold eps; simp [Ideal.ofBits, Ideal.ieee, -EReal.coe_mul]; rfl⟩
  norm_num

/-- A finite sum of real numbers is a real number. -/
theorem fin_sum {n : ℕ} (f : Fin n → EReal) (hf : ∀ i, IsReal (f i)) : IsReal (∑ i, f i) := by
  refine Finset.sum_induction f IsReal ?_ ⟨0, rfl⟩ fun i _ => hf i
  rintro _ _ ⟨a, rfl⟩ ⟨b, rfl⟩
  exact ⟨a + b, (EReal.coe_add ..).symm⟩

/-- A square is not negative. -/
theorem square_nonneg (v : EReal) : 0 ≤ v * v := by
  induction v with
  | bot => simp
  | top => simp
  | coe r => rw [← EReal.coe_mul]; exact_mod_cast mul_self_nonneg r

/-- A sum of squares bounds each square. -/
theorem sq_le_sum {n : ℕ} (v : Fin n → EReal) (i : Fin n) : v i * v i ≤ ∑ k, v k * v k :=
  Finset.single_le_sum (f := fun k => v k * v k) (fun k _ => square_nonneg (v k)) (Finset.mem_univ i)

/-- An entry over the floored norm is a real number, whatever the vector holds: where the norm is infinite the quotient is 0. -/
theorem unit_fin {n : ℕ} (v : Fin n → EReal) (i : Fin n) : IsReal (unit v i) := by
  obtain ⟨ε, hε, he⟩ := eps_eq
  unfold unit
  rw [he]
  generalize hS : ∑ k, v k * v k = S
  have hle : v i * v i ≤ S := hS ▸ sq_le_sum v i
  have hS0 : 0 ≤ S := (square_nonneg (v i)).trans hle
  induction S with
  | bot => simp at hS0
  | top =>
    refine ⟨0, ?_⟩
    have : max (Ideal.sqrt (⊤ : EReal)) (ε : EReal) = ⊤ := by simp
    rw [this]
    simp [Ideal.div]
  | coe S =>
    have hv : ∃ r : ℝ, v i = r := by
      generalize v i = w at hle
      induction w with
      | bot => simp at hle
      | top => simp at hle
      | coe w => exact ⟨w, rfl⟩
    obtain ⟨r, hr⟩ := hv
    have hS0' : 0 ≤ S := by exact_mod_cast hS0
    have : max (Ideal.sqrt (S : EReal)) (ε : EReal) = ((max (Real.sqrt S) ε : ℝ) : EReal) := by
      rw [Ideal.sqrt_coe, if_neg (not_lt.2 hS0')]
      exact (EReal.coe_strictMono.monotone.map_max).symm
    rw [this, hr, Ideal.div_coe (ne_of_gt (lt_max_of_lt_right hε))]
    exact ⟨r * (1 / max (Real.sqrt S) ε), (EReal.coe_mul ..).symm⟩

/-- A logistic value is a real number. -/
theorem logistic_fin (v : EReal) : IsReal (Ideal.logistic v) := by
  induction v with
  | bot => exact ⟨0, by simp⟩
  | top => exact ⟨1, by simp⟩
  | coe r => exact ⟨_, Ideal.logistic_coe r⟩

/-- Every gated logit is a real number, whatever the arguments hold. -/
theorem preE_fin (x : FVec Ideal S4x8192x2048 .f32) (s : FVec Ideal S2048x16 .f32) (g : FVec Ideal S16 .f32) (b : Fin 4) (e : Fin 16) :
    IsReal (preE x s g b e) := by
  unfold preE
  obtain ⟨l, hl⟩ : IsReal (logitE x s b e) := by
    refine fin_sum _ fun h => ?_
    obtain ⟨p, hp⟩ := unit_fin (meanE x b) h
    obtain ⟨q, hq⟩ := unit_fin (fun h => s (ix2 h e)) h
    exact ⟨p * q, by rw [hp, hq]; exact (EReal.coe_mul ..).symm⟩
  obtain ⟨q, hq⟩ := logistic_fin (g (ix1 e))
  exact ⟨l - q, by rw [hl, hq]; exact (EReal.coe_sub ..).symm⟩

end Cert.Proof.Value
-- ==== Proof.RefMask.lean ====
/-
  The reference's mask and softmax, read over the extended reals.
-/
module

public import proofs.«01_k».proof.Defs
public import proofs.«01_k».proof.Proof.Gate
public import proofs.«01_k».proof.Proof.RefLogits
public import Idealize.ShloMosaic.Lib.Pointwise

@[expose] public section

set_option maxRecDepth 16384

noncomputable section

namespace Cert.Proof.Value

open Cert.ReferenceIdeal Cert.ReferenceIdeal.Gen Idealize.ShloMosaic Idealize.ShloMosaic.TcCoe

/-- The straight-through indicator of a real gated logit is the indicator. -/
theorem refActive_apply (p : FVec Ideal S4x16 .f32) (b : Fin 4) (e : Fin 16) (hp : IsReal (p (ix2 b e))) :
    refActive (refGated p) (ix2 b e) = if 0 < p (ix2 b e) then 1 else 0 := by
  obtain ⟨r, hr⟩ := hp
  unfold refActive refGated
  pointwise
  rw [hr]
  have hm : max (r : EReal) 0 = ((max r 0 : ℝ) : EReal) := (EReal.coe_strictMono.monotone.map_max (a := r) (b := 0)).symm
  rw [hm]
  by_cases h : 0 < r
  · have h' : (0 : EReal) < r := by exact_mod_cast h
    have h'' : (0 : EReal) < ((max r 0 : ℝ) : EReal) := by rw [← hm]; exact lt_max_of_lt_left h'
    rw [if_pos h', decide_eq_true h'']
    show ((max r 0 : ℝ) : EReal) + (((BitVec.ofBool true).toNat : ℝ) - ((max r 0 : ℝ) : EReal)) = 1
    rw [← EReal.coe_sub, ← EReal.coe_add]
    simp
  · have h' : ¬ (0 : EReal) < r := by exact_mod_cast h
    have h0 : max r 0 = 0 := max_eq_right (not_lt.1 h)
    rw [if_neg h', h0]
    simp [FloatOps.uitofp]

/-- Column `k` of the row through an element. -/
theorem along_one (b : Fin 4) (r k : Fin 16) (hd : 1 < S4x16.rank) : Shape.Idx.along (s := S4x16) (ix2 b r) ⟨1, hd⟩ k = ix2 b k := by
  funext a
  unfold Shape.Idx.along
  match a with
  | 0 => rfl
  | 1 => rfl

/-- A stable sort of a row by descending value, carrying the columns' numbers, leaves at place `r` the number of the column that
    stands there. -/
theorem sort_apply (l : FVec Ideal S4x16 .f32) (idx : IVec S4x16 32) (hidx : ∀ b e, idx (ix2 b e) = BitVec.ofNat 32 e.val) (b : Fin 4) (r : Fin 16) :
    (Host.sort2 S4x16 1 (fun x y => FloatOps.cmpfTotal (F := Ideal) (φ := .f32) .gt x.1 y.1) l idx).2 (ix2 b r)
      = BitVec.ofNat 32 (sortedFrom (desc fun e => l (ix2 b e)) r).val := by
  have hd : 1 < S4x16.rank := by decide
  have hb : (fun k k' : Fin 16 => FloatOps.cmpfTotal (F := Ideal) (φ := .f32) .gt (l ((ix2 b r : S4x16.Idx).along ⟨1, hd⟩ k)) (l ((ix2 b r : S4x16.Idx).along ⟨1, hd⟩ k')) == 1#1)
      = desc fun e => l (ix2 b e) := by
    funext k k'
    unfold desc
    rw [Ideal.cmpfTotal_def, along_one, along_one]
    by_cases h : l (ix2 b k') < l (ix2 b k) <;> simp [Ideal.cmp, CmpDirection.ordered, h]
  have hsrc : sortedFrom (n := 16) (fun k k' : Fin 16 => FloatOps.cmpfTotal (F := Ideal) (φ := .f32) .gt (l ((ix2 b r : S4x16.Idx).along ⟨1, hd⟩ k)) (l ((ix2 b r : S4x16.Idx).along ⟨1, hd⟩ k')) == 1#1) r
      = sortedFrom (desc fun e => l (ix2 b e)) r := by rw [hb]
  unfold Host.sort2
  rw [dif_pos hd]
  refine (congrArg (fun c : Fin 16 => idx ((ix2 b r : S4x16.Idx).along ⟨1, hd⟩ c)) hsrc).trans ?_
  rw [along_one, hidx]

/-- The first eight columns. -/
theorem first_eight {α : Type} (y : S4x16.Idx → α) (h : S4x16.Slices (fun _ => 0) S4x8) (b : Fin 4) (r : Fin 8) :
    extractStridedSlice S4x8 (fun _ => 0) y h (ix2 b r) = y (ix2 b (r.castLE (by omega) : Fin 16)) := by
  unfold extractStridedSlice
  refine congrArg y (funext fun a => Fin.ext ?_)
  match a with
  | 0 => exact Nat.zero_add _
  | 1 => exact Nat.zero_add _

/-- The place a sort by descending logit puts at `r`, which the reference's top-k returns. -/
theorem topK_apply (l : FVec Ideal S4x16 .f32) (b : Fin 4) (r : Fin 8) :
    (Host.topK S4x8 1 (FloatOps.cmpfTotal (F := Ideal) .gt) l sliceFits_S4x16_S4x8).2 (ix2 b r)
      = BitVec.ofNat 32 (sortedFrom (desc fun e => l (ix2 b e)) (r.castLE (by omega))).val := by
  have h := sort_apply l (fun i => if hd : 1 < S4x16.rank then iotaInDim S4x16 32 ⟨1, hd⟩ i else 0#32) (fun _ _ => rfl) b (r.castLE (by omega))
  unfold Host.topK
  dsimp only
  rw [first_eight]
  exact h

/-- The reference's fallback: one at the logits with fewer than eight ahead. -/
theorem refTop_apply (l : FVec Ideal S4x16 .f32) (b : Fin 4) (e : Fin 16) :
    refTop l (ix2 b e) = if rank (fun e => l (ix2 b e)) e < 8 then 1 else 0 := by
  unfold refTop
  pointwise
  have ht : ∀ x : Fin 8, FloatOps.uitofp (F := Ideal) .f32 (IntOp.cmpi CmpIPredicate.eq
      ((Host.topK S4x8 1 (FloatOps.cmpfTotal (F := Ideal) .gt) l sliceFits_S4x16_S4x8).2 (ix2 b x)) (BitVec.ofNat 32 e.val))
        = if sortedFrom (desc fun e => l (ix2 b e)) (x.castLE (by omega)) = e then (1 : EReal) else 0 := by
    intro x
    rw [topK_apply, WordCmp.cmpi_eq_ofNat (by omega) (by omega)]
    by_cases h : sortedFrom (desc fun e => l (ix2 b e)) (x.castLE (by omega)) = e
    · simp [FloatOps.uitofp, h]
    · simp [FloatOps.uitofp, h, Fin.val_inj]
  rw [Finset.sum_congr rfl fun x _ => ht x, sum_top]
  split <;> simp

/-- The reference's softmax. -/
theorem refSoft_apply (v : FVec Ideal S4x16 .f32) (b : Fin 4) (e : Fin 16) : refSoft v (ix2 b e) = softE (fun e => v (ix2 b e)) e := by
  unfold refSoft refExp softE
  pointwise
  simp only [ofBits_negInf, max_eq_right bot_le]

/-- The reference's kept logits. -/
theorem refKept_apply (p k : FVec Ideal S4x16 .f32) (b : Fin 4) (e : Fin 16) :
    refKept p k (ix2 b e) = keptE (fun e => p (ix2 b e)) (fun e => k (ix2 b e)) e := by
  unfold refKept refGated keptE
  pointwise

/-- The reference's mask, where the gated logits are real. -/
theorem refMask_apply (l p : FVec Ideal S4x16 .f32) (hp : ∀ b e, IsReal (p (ix2 b e))) (b : Fin 4) (e : Fin 16) :
    refMask l p (ix2 b e) = maskE (fun e => l (ix2 b e)) (fun e => p (ix2 b e)) e := by
  unfold refMask maskE
  pointwise
  simp only [refActive_apply _ _ _ (hp _ _), refTop_apply]
  refine if_congr ?_ rfl rfl
  rw [Finset.sum_eq_zero_iff_of_nonneg fun i _ => by split <;> simp]
  refine ⟨fun h e' => not_lt.1 fun hl => ?_, fun h i _ => if_neg (not_lt.2 (h i))⟩
  have := h e' (Finset.mem_univ _)
  rw [if_pos hl] at this
  exact one_ne_zero this

end Cert.Proof.Value
-- ==== Proof.Algebraic.lean ====
/-
  The value claim: over the extended reals the kernel and the reference return the same softmax, the same gated logits and the
  same mask, at every element.
-/
module

public import proofs.«01_k».proof.Defs
public import proofs.«01_k».proof.Proof.RunIdeal
public import proofs.«01_k».proof.Proof.KernelMask
public import proofs.«01_k».proof.Proof.RefMask

@[expose] public section

set_option maxRecDepth 16384

noncomputable section

namespace Cert.Proof.Value

open Idealize.ShloMosaic Idealize.ShloMosaic.TcCoe Idealize.SL.Sem
open Cert.Proof.KernelIdealRun

/-- Two 4 by 16 arrays that agree at every row and column are equal. -/
theorem ext2 {α : Type} {f g : (⟨2, ![4, 16]⟩ : Shape).Idx → α} (h : ∀ b e, f (ix2 b e) = g (ix2 b e)) : f = g := by
  funext j
  rw [show j = ix2 (j 0) (j 1) from funext fun a => match a with | 0 => rfl | 1 => rfl]
  exact h _ _

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The launch's `x`. -/
abbrev argX : FVec Ideal ⟨3, ![4, 8192, 2048]⟩ .f32 := m ((c.tc : Thread Cert.KernelIdeal.nD Cert.KernelIdeal.τ).loc Cert.KernelIdeal.main_arg0)
/-- The launch's similarity matrix. -/
abbrev argS : FVec Ideal ⟨2, ![2048, 16]⟩ .f32 := m ((c.tc : Thread Cert.KernelIdeal.nD Cert.KernelIdeal.τ).loc Cert.KernelIdeal.main_arg1)
/-- The launch's gates. -/
abbrev argG : FVec Ideal ⟨1, ![16]⟩ .f32 := m ((c.tc : Thread Cert.KernelIdeal.nD Cert.KernelIdeal.τ).loc Cert.KernelIdeal.main_arg2)

/-- The kernel's logits, from the launch. -/
theorem ker_logit (b : Fin 4) (e : Fin 16) :
    Cert.KernelIdeal.Gen.k0_pay19 (pooledN (F := Ideal) m c) (simV m c) (ix2 b e) = logitE (argX m c) (argS m c) b e := by
  have hs : simV m c = argS m c := Cert.KernelIdeal.Gen.V_main_arg1 m c
  rw [hs]
  exact pay19_apply (argX m c) _ (pooledN_apply m c) (argS m c) b e

/-- The kernel's gated logits, from the launch. -/
theorem ker_pre (b : Fin 4) (e : Fin 16) :
    Cert.KernelIdeal.Gen.k0_pay20 (pooledN (F := Ideal) m c) (simV m c) (gateV m c) (ix2 b e) = preE (argX m c) (argS m c) (argG m c) b e := by
  have hs : simV m c = argS m c := Cert.KernelIdeal.Gen.V_main_arg1 m c
  have hg : gateV m c = shapeCast Cert.KernelIdeal.S1x16 (argG m c) Cert.KernelIdeal.Gen.shapeCasts_S16_S1x16 := V_gates m c
  rw [hs, hg]
  exact pay20_apply (argX m c) _ (pooledN_apply m c) (argS m c) (argG m c) b e

/-- The kernel's mask, from the launch. -/
theorem ker_mask (b : Fin 4) (e : Fin 16) :
    res2 (F := Ideal) m c (ix2 b e) = maskE (logitE (argX m c) (argS m c) b) (preE (argX m c) (argS m c) (argG m c) b) e :=
  (outMask_apply _ _ _ b e).trans (congrFun (congrArg₂ maskE (funext (ker_logit m c b)) (funext (ker_pre m c b))) e)

/-- The kernel's softmax, from the launch. -/
theorem ker_soft (b : Fin 4) (e : Fin 16) :
    res0 (F := Ideal) m c (ix2 b e)
      = softE (keptE (preE (argX m c) (argS m c) (argG m c) b)
          (maskE (logitE (argX m c) (argS m c) b) (preE (argX m c) (argS m c) (argG m c) b))) e :=
  (outSoft_apply _ _ _ b e).trans
    (congrFun (congrArg softE (congrArg₂ keptE (funext (ker_pre m c b)) (funext (ker_mask m c b)))) e)

variable (h0 : m' ((c.tc : Thread Cert.ReferenceIdeal.nD Cert.ReferenceIdeal.τ).loc Cert.ReferenceIdeal.main_arg0) = argX m c)
  (h1 : m' ((c.tc : Thread Cert.ReferenceIdeal.nD Cert.ReferenceIdeal.τ).loc Cert.ReferenceIdeal.main_arg1) = argS m c)
  (h2 : m' ((c.tc : Thread Cert.ReferenceIdeal.nD Cert.ReferenceIdeal.τ).loc Cert.ReferenceIdeal.main_arg2) = argG m c)
include h0 h1

/-- The reference's logits, from the launch. -/
theorem ref_logit (b : Fin 4) (e : Fin 16) : refL m' c (ix2 b e) = logitE (argX m c) (argS m c) b e := by
  unfold refL
  rw [h0, h1]
  exact refLogits_apply _ _ b e

include h2

/-- The reference's gated logits, from the launch. -/
theorem ref_pre (b : Fin 4) (e : Fin 16) : refP m' c (ix2 b e) = preE (argX m c) (argS m c) (argG m c) b e := by
  unfold refP
  rw [h2]
  exact refPre_apply _ _ _ (ref_logit m m' c h0 h1) _ b e

/-- The reference's mask, from the launch. -/
theorem ref_mask (b : Fin 4) (e : Fin 16) :
    refMask (refL m' c) (refP m' c) (ix2 b e)
      = maskE (logitE (argX m c) (argS m c) b) (preE (argX m c) (argS m c) (argG m c) b) e := by
  rw [refMask_apply _ _ fun b e => by rw [ref_pre m m' c h0 h1 h2]; exact preE_fin _ _ _ b e]
  simp only [ref_logit m m' c h0 h1, ref_pre m m' c h0 h1 h2]

/-- The gated logits agree. -/
theorem agree1 : refP m' c = res1 (F := Ideal) m c :=
  ext2 fun b e => (ref_pre m m' c h0 h1 h2 b e).trans (ker_pre m c b e).symm

/-- The masks agree. -/
theorem agree2 : refMask (refL m' c) (refP m' c) = res2 (F := Ideal) m c :=
  ext2 fun b e => (ref_mask m m' c h0 h1 h2 b e).trans (ker_mask m c b e).symm

/-- The softmaxes agree. -/
theorem agree0 : refSoft (refKept (refP m' c) (refMask (refL m' c) (refP m' c))) = res0 (F := Ideal) m c := by
  refine ext2 fun b e => Eq.trans ?_ (ker_soft m c b e).symm
  rw [refSoft_apply]
  simp only [refKept_apply, ref_pre m m' c h0 h1 h2, ref_mask m m' c h0 h1 h2]

end

/-- From memories that hold the same three arguments, the kernel and the reference both end with the same three results, their
    arguments unchanged. -/
theorem algebraic : Cert.algebraic_KernelIdeal_ReferenceIdeal := fun m g m' g' _ hargs =>
  ⟨fun c => res0 (F := Ideal) m c, fun c => res1 (F := Ideal) m c, fun c => res2 (F := Ideal) m c,
    (θ_run _ _ _).mono (fun _ h c => ⟨(h.1 c).1.1, (h.1 c).1.2.1, (h.1 c).1.2.2, (h.1 c).2⟩) (Cert.Proof.KernelIdealRun.run (F := Ideal) m g),
    (θ_run _ _ _).mono (fun _ h c =>
      ⟨((h c).1.trans (res0_eq m' c)).trans (agree0 m m' c (hargs c).1 (hargs c).2.1 (hargs c).2.2),
        ((h c).2.1.trans (show _ = refP m' c from rfl)).trans (agree1 m m' c (hargs c).1 (hargs c).2.1 (hargs c).2.2),
        ((h c).2.2.1.trans (res2_eq m' c)).trans (agree2 m m' c (hargs c).1 (hargs c).2.1 (hargs c).2.2), (h c).2.2.2⟩)
      (Cert.ReferenceIdeal.Value.run (F := Ideal) m' g')⟩

end Cert.Proof.Value
-- ==== Proof.lean ====
module

public import proofs.«01_k».proof.Defs
public import proofs.«01_k».proof.Proof.Frames
public import proofs.«01_k».proof.Proof.Algebraic

@[expose] public section

noncomputable section

/-- Everything the certificate claims. -/
theorem Cert.Proof.claim : Cert.Claim :=
  ⟨Cert.Kernel.Gen.facts, Cert.KernelIdeal.Gen.facts, Cert.ReferenceIdeal.Gen.facts,
    frame_p, frame_pi, frame_ri, trivial, Value.algebraic⟩
